-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S100000x3 : Shape := ⟨2, ![100000, 3]⟩
abbrev S100000 : Shape := ⟨1, ![100000]⟩
abbrev S100000x20 : Shape := ⟨2, ![100000, 20]⟩
abbrev S100000x20x3 : Shape := ⟨3, ![100000, 20, 3]⟩
abbrev S2048x20 : Shape := ⟨2, ![2048, 20]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S100000x20 : S_.BroadcastsInDim S100000x20 (![] : Fin 0 → Fin S100000x20.rank)
  reducesTo_S100000x20_S_d0_1 : S100000x20.ReducesTo [0, 1] S_
  bcast_S_S100000x20x3 : S_.BroadcastsInDim S100000x20x3 (![] : Fin 0 → Fin S100000x20x3.rank)
  reducesTo_S100000x20x3_S_d0_1_2 : S100000x20x3.ReducesTo [0, 1, 2] S_

variable [Facts]

def fn_part1 {F : FTy → Type} [FloatOps F] (main_v15 : IVec S_ 1) (main_v16 : FVec F S100000x20x3 .f32) : IVec S_ 1 :=
  let main_cst_5 : FVec F S_ .f32 := constant S_ .f32 0x7F800000#32
  let main_v17 : FVec F S100000x20x3 .f32 := broadcastInDim S100000x20x3 ![] bcast_S_S100000x20x3 main_cst_5
  let main_v18 : IVec S100000x20x3 1 := cmpf .olt main_v16 main_v17
  let main_c_6 : IVec S_ 1 := constantI S_ 1 1#1
  let main_v19 : IVec S_ 1 := (fun x v => Host.reduce IntOp.andi x v reducesTo_S100000x20x3_S_d0_1_2 h_S_) main_v18 main_c_6
  let main_v20 : IVec S_ 1 := andi main_v15 main_v19
  main_v20

def fn {F : FTy → Type} [FloatOps F] (main_arg0 : FVec F S100000x3 .f32) (main_arg1 : IVec S100000 32) (main_arg2 : FVec F S100000x20 .f32) (main_arg3 : FVec F S100000x20x3 .f32) (main_arg4 : FVec F S100000x20x3 .f32) (main_arg5 : FVec F S100000x20x3 .f32) (main_arg6 : FVec F S2048x20 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 2048#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S100000x3 .f32 := Host.absf main_arg0
  let main_cst : FVec F S_ .f32 := constant S_ .f32 0x7F800000#32
  let main_v7 : FVec F S100000x3 .f32 := broadcastInDim S100000x3 ![] bcast_S_S100000x3 main_cst
  let main_v8 : IVec S100000x3 1 := cmpf .olt main_v6 main_v7
  let main_c_2 : IVec S_ 1 := constantI S_ 1 1#1
  let main_v9 : IVec S_ 1 := (fun x v => Host.reduce IntOp.andi x v reducesTo_S100000x3_S_d0_1 h_S_) main_v8 main_c_2
  let main_v10 : IVec S_ 1 := andi main_v5 main_v9
  let main_v11 : FVec F S100000x20 .f32 := Host.absf main_arg2
  let main_cst_3 : FVec F S_ .f32 := constant S_ .f32 0x7F800000#32
  let main_v12 : FVec F S100000x20 .f32 := broadcastInDim S100000x20 ![] bcast_S_S100000x20 main_cst_3
  let main_v13 : IVec S100000x20 1 := cmpf .olt main_v11 main_v12
  let main_c_4 : IVec S_ 1 := constantI S_ 1 1#1
  let main_v14 : IVec S_ 1 := (fun x v => Host.reduce IntOp.andi x v reducesTo_S100000x20_S_d0_1 h_S_) main_v13 main_c_4
  let main_v15 : IVec S_ 1 := andi main_v10 main_v14
  let main_v16 : FVec F S100000x20x3 .f32 := Host.absf main_arg5
  fn_part1 (F := F) main_v15 main_v16
-- ==== Pre_in_range.lean ====
abbrev S100000x3 : Shape := ⟨2, ![100000, 3]⟩
abbrev S100000 : Shape := ⟨1, ![100000]⟩
abbrev S100000x20 : Shape := ⟨2, ![100000, 20]⟩
abbrev S100000x20x3 : Shape := ⟨3, ![100000, 20, 3]⟩
abbrev S2048x20 : Shape := ⟨2, ![2048, 20]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x3 .f32) (main_arg1 : IVec S100000 32) (main_arg2 : FVec F S100000x20 .f32) (main_arg3 : FVec F S100000x20x3 .f32) (main_arg4 : FVec F S100000x20x3 .f32) (main_arg5 : FVec F S100000x20x3 .f32) (main_arg6 : FVec F S2048x20 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 2048#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Kernel.lean ====
abbrev S100000x3 : Shape := ⟨2, ![100000, 3]⟩
abbrev S100000 : Shape := ⟨1, ![100000]⟩
abbrev S100000x20 : Shape := ⟨2, ![100000, 20]⟩
abbrev S100000x20x3 : Shape := ⟨3, ![100000, 20, 3]⟩
abbrev S2048x20 : Shape := ⟨2, ![2048, 20]⟩
abbrev S100000x1 : Shape := ⟨2, ![100000, 1]⟩
abbrev S100000x60 : Shape := ⟨2, ![100000, 60]⟩
abbrev S2048x204 : Shape := ⟨2, ![2048, 204]⟩
abbrev S2048x60 : Shape := ⟨2, ![2048, 60]⟩
abbrev S1000x1 : Shape := ⟨2, ![1000, 1]⟩
abbrev S1000x3 : Shape := ⟨2, ![1000, 3]⟩
abbrev S1000x20 : Shape := ⟨2, ![1000, 20]⟩
abbrev S1000x60 : Shape := ⟨2, ![1000, 60]⟩
abbrev S20x60 : Shape := ⟨2, ![20, 60]⟩
abbrev S1000x204 : Shape := ⟨2, ![1000, 204]⟩
abbrev S1000x256 : Shape := ⟨2, ![1000, 256]⟩
abbrev S1x1000x1 : Shape := ⟨3, ![1, 1000, 1]⟩
abbrev S1 : Shape := ⟨1, ![1]⟩
abbrev S1x1x1 : Shape := ⟨3, ![1, 1, 1]⟩
abbrev S256x204 : Shape := ⟨2, ![256, 204]⟩
abbrev S2048x3 : Shape := ⟨2, ![2048, 3]⟩
abbrev S2048x1 : Shape := ⟨2, ![2048, 1]⟩
abbrev S60x20 : Shape := ⟨2, ![60, 20]⟩
abbrev S2048x20x3 : Shape := ⟨3, ![2048, 20, 3]⟩

abbrev nBuf : Space → Nat
  | .hbm => 17
  | .vmem => 17
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S100000x20, .f32⟩
  | .hbm, ⟨3, _⟩ => ⟨S100000x20x3, .f32⟩
  | .hbm, ⟨4, _⟩ => ⟨S100000x20x3, .f32⟩
  | .hbm, ⟨5, _⟩ => ⟨S100000x20x3, .f32⟩
  | .hbm, ⟨6, _⟩ => ⟨S2048x20, .f32⟩
  | .hbm, ⟨7, _⟩ => ⟨S100000x1, .i32⟩
  | .hbm, ⟨8, _⟩ => ⟨S100000x60, .f32⟩
  | .hbm, ⟨9, _⟩ => ⟨S100000x60, .f32⟩
  | .hbm, ⟨10, _⟩ => ⟨S100000x60, .f32⟩
  | .hbm, ⟨11, _⟩ => ⟨S2048x204, .f32⟩
  | .hbm, ⟨12, _⟩ => ⟨S2048x60, .f32⟩
  | .hbm, ⟨13, _⟩ => ⟨S2048x60, .f32⟩
  | .hbm, ⟨14, _⟩ => ⟨S2048x20, .f32⟩
  | .hbm, ⟨15, _⟩ => ⟨S2048x20x3, .f32⟩
  | .hbm, ⟨16, _⟩ => ⟨S2048x20x3, .f32⟩
  | .local _ .vmem, ⟨0, _⟩ => ⟨S1000x1, .i32⟩
  | .local _ .vmem, ⟨1, _⟩ => ⟨S1000x1, .i32⟩
  | .local _ .vmem, ⟨2, _⟩ => ⟨S1000x3, .f32⟩
  | .local _ .vmem, ⟨3, _⟩ => ⟨S1000x3, .f32⟩
  | .local _ .vmem, ⟨4, _⟩ => ⟨S1000x20, .f32⟩
  | .local _ .vmem, ⟨5, _⟩ => ⟨S1000x20, .f32⟩
  | .local _ .vmem, ⟨6, _⟩ => ⟨S1000x60, .f32⟩
  | .local _ .vmem, ⟨7, _⟩ => ⟨S1000x60, .f32⟩
  | .local _ .vmem, ⟨8, _⟩ => ⟨S1000x60, .f32⟩
  | .local _ .vmem, ⟨9, _⟩ => ⟨S1000x60, .f32⟩
  | .local _ .vmem, ⟨10, _⟩ => ⟨S1000x60, .f32⟩
  | .local _ .vmem, ⟨11, _⟩ => ⟨S1000x60, .f32⟩
  | .local _ .vmem, ⟨12, _⟩ => ⟨S2048x20, .f32⟩
  | .local _ .vmem, ⟨13, _⟩ => ⟨S2048x204, .f32⟩
  | .local _ .vmem, ⟨14, _⟩ => ⟨S2048x60, .f32⟩
  | .local _ .vmem, ⟨15, _⟩ => ⟨S2048x60, .f32⟩
  | .local _ .vmem, ⟨16, _⟩ => ⟨S2048x20, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![100], ![false]⟩

@[reducible] def k0_t1_loop (v150 : BitVec 32) (v171 : BitVec 32) : Scf.Loop 32 :=
  let c0_i32_56 : BitVec 32 := 0#32
  let v152 : BitVec 1 := Scalar.cmpi .sgt v150 c0_i32_56
  let v153 : BitVec 32 := Scalar.extui v152
  let c0_i32_57 : BitVec 32 := 0#32
  let v154 : BitVec 1 := Scalar.cmpi .slt v150 c0_i32_57
  let v155 : BitVec 32 := Scalar.extui v154
  let v156 : BitVec 32 := Scalar.subi v153 v155
  let c256_i32 : BitVec 32 := 256#32
  let c0_i32_58 : BitVec 32 := 0#32
  let v157 : BitVec 1 := Scalar.cmpi .sgt c256_i32 c0_i32_58
  let v158 : BitVec 32 := Scalar.extui v157
  let c0_i32_59 : BitVec 32 := 0#32
  let v159 : BitVec 1 := Scalar.cmpi .slt c256_i32 c0_i32_59
  let v160 : BitVec 32 := Scalar.extui v159
  let v161 : BitVec 32 := Scalar.subi v158 v160
  let v162 : BitVec 1 := Scalar.cmpi .ne v156 v161
  let v163 : BitVec 32 := Scalar.remsi v150 c256_i32
  let c0_i32_60 : BitVec 32 := 0#32
  let v164 : BitVec 1 := Scalar.cmpi .ne v163 c0_i32_60
  let v165 : BitVec 1 := Scalar.andi v162 v164
  let v151 : BitVec 32 := Scalar.divsi v150 c256_i32
  let c1_i32_61 : BitVec 32 := 1#32
  let v166 : BitVec 32 := Scalar.subi v151 c1_i32_61
  let v167 : BitVec 32 := Scalar.select v165 v166 v151
  let c0_i32_64 : BitVec 32 := 0#32
  let v173 : BitVec 1 := Scalar.cmpi .sgt v171 c0_i32_64
  let v174 : BitVec 32 := Scalar.extui v173
  let c0_i32_65 : BitVec 32 := 0#32
  let v175 : BitVec 1 := Scalar.cmpi .slt v171 c0_i32_65
  let v176 : BitVec 32 := Scalar.extui v175
  let v177 : BitVec 32 := Scalar.subi v174 v176
  let c256_i32_63 : BitVec 32 := 256#32
  let c0_i32_66 : BitVec 32 := 0#32
  let v178 : BitVec 1 := Scalar.cmpi .sgt c256_i32_63 c0_i32_66
  let v179 : BitVec 32 := Scalar.extui v178
  let c0_i32_67 : BitVec 32 := 0#32
  let v180 : BitVec 1 := Scalar.cmpi .slt c256_i32_63 c0_i32_67
  let v181 : BitVec 32 := Scalar.extui v180
  let v182 : BitVec 32 := Scalar.subi v179 v181
  let v183 : BitVec 1 := Scalar.cmpi .ne v177 v182
  let v184 : BitVec 32 := Scalar.remsi v171 c256_i32_63
  let c0_i32_68 : BitVec 32 := 0#32
  let v185 : BitVec 1 := Scalar.cmpi .ne v184 c0_i32_68
  let v186 : BitVec 1 := Scalar.andi v183 v185
  let v172 : BitVec 32 := Scalar.divsi v171 c256_i32_63
  let c1_i32_69 : BitVec 32 := 1#32
  let v187 : BitVec 32 := Scalar.subi v172 c1_i32_69
  let v188 : BitVec 32 := Scalar.select v186 v187 v172
  let c1_i32_70 : BitVec 32 := 1#32
  let v189 : BitVec 32 := Scalar.addi v188 c1_i32_70
  let v190 : BitVec 32 := Scalar.subi v189 v167
  let c1_i32_72 : BitVec 32 := 1#32
  let v192 : BitVec 32 := Scalar.divsi v190 c1_i32_72
  let v193 : BitVec 32 := Scalar.muli v192 c1_i32_72
  let v194 : BitVec 32 := Scalar.addi v167 v193
  let c1_i32_73 : BitVec 32 := 1#32
  ⟨v167, v194, c1_i32_73⟩

def k0_off1 (v150 : BitVec 32) (v171 : BitVec 32) (k0_t1 : Fin (k0_t1_loop v150 v171).trips) : Fin 2 → Nat :=
  let c0_i32_56 : BitVec 32 := 0#32
  let v152 : BitVec 1 := Scalar.cmpi .sgt v150 c0_i32_56
  let v153 : BitVec 32 := Scalar.extui v152
  let c0_i32_57 : BitVec 32 := 0#32
  let v154 : BitVec 1 := Scalar.cmpi .slt v150 c0_i32_57
  let v155 : BitVec 32 := Scalar.extui v154
  let v156 : BitVec 32 := Scalar.subi v153 v155
  let c256_i32 : BitVec 32 := 256#32
  let c0_i32_58 : BitVec 32 := 0#32
  let v157 : BitVec 1 := Scalar.cmpi .sgt c256_i32 c0_i32_58
  let v158 : BitVec 32 := Scalar.extui v157
  let c0_i32_59 : BitVec 32 := 0#32
  let v159 : BitVec 1 := Scalar.cmpi .slt c256_i32 c0_i32_59
  let v160 : BitVec 32 := Scalar.extui v159
  let v161 : BitVec 32 := Scalar.subi v158 v160
  let v162 : BitVec 1 := Scalar.cmpi .ne v156 v161
  let v163 : BitVec 32 := Scalar.remsi v150 c256_i32
  let c0_i32_60 : BitVec 32 := 0#32
  let v164 : BitVec 1 := Scalar.cmpi .ne v163 c0_i32_60
  let v165 : BitVec 1 := Scalar.andi v162 v164
  let v151 : BitVec 32 := Scalar.divsi v150 c256_i32
  let c1_i32_61 : BitVec 32 := 1#32
  let v166 : BitVec 32 := Scalar.subi v151 c1_i32_61
  let v167 : BitVec 32 := Scalar.select v165 v166 v151
  let c1_i32_73 : BitVec 32 := 1#32
  let arg12 : BitVec 32 := Scf.iv v167 c1_i32_73 k0_t1
  let c256_i32_76 : BitVec 32 := 256#32
  let v198 : BitVec 32 := Scalar.muli arg12 c256_i32_76
  let v206 : Index := Scalar.indexCast v198
  let c0_78 : Index := 0#32
  ![v206.toNat, 0]
@[reducible] def k0_t2_loop (v150 : BitVec 32) (v171 : BitVec 32) : Scf.Loop 32 :=
  let c0_i32_56 : BitVec 32 := 0#32
  let v152 : BitVec 1 := Scalar.cmpi .sgt v150 c0_i32_56
  let v153 : BitVec 32 := Scalar.extui v152
  let c0_i32_57 : BitVec 32 := 0#32
  let v154 : BitVec 1 := Scalar.cmpi .slt v150 c0_i32_57
  let v155 : BitVec 32 := Scalar.extui v154
  let v156 : BitVec 32 := Scalar.subi v153 v155
  let c256_i32 : BitVec 32 := 256#32
  let c0_i32_58 : BitVec 32 := 0#32
  let v157 : BitVec 1 := Scalar.cmpi .sgt c256_i32 c0_i32_58
  let v158 : BitVec 32 := Scalar.extui v157
  let c0_i32_59 : BitVec 32 := 0#32
  let v159 : BitVec 1 := Scalar.cmpi .slt c256_i32 c0_i32_59
  let v160 : BitVec 32 := Scalar.extui v159
  let v161 : BitVec 32 := Scalar.subi v158 v160
  let v162 : BitVec 1 := Scalar.cmpi .ne v156 v161
  let v163 : BitVec 32 := Scalar.remsi v150 c256_i32
  let c0_i32_60 : BitVec 32 := 0#32
  let v164 : BitVec 1 := Scalar.cmpi .ne v163 c0_i32_60
  let v165 : BitVec 1 := Scalar.andi v162 v164
  let v151 : BitVec 32 := Scalar.divsi v150 c256_i32
  let c1_i32_61 : BitVec 32 := 1#32
  let v166 : BitVec 32 := Scalar.subi v151 c1_i32_61
  let v167 : BitVec 32 := Scalar.select v165 v166 v151
  let c0_i32_64 : BitVec 32 := 0#32
  let v173 : BitVec 1 := Scalar.cmpi .sgt v171 c0_i32_64
  let v174 : BitVec 32 := Scalar.extui v173
  let c0_i32_65 : BitVec 32 := 0#32
  let v175 : BitVec 1 := Scalar.cmpi .slt v171 c0_i32_65
  let v176 : BitVec 32 := Scalar.extui v175
  let v177 : BitVec 32 := Scalar.subi v174 v176
  let c256_i32_63 : BitVec 32 := 256#32
  let c0_i32_66 : BitVec 32 := 0#32
  let v178 : BitVec 1 := Scalar.cmpi .sgt c256_i32_63 c0_i32_66
  let v179 : BitVec 32 := Scalar.extui v178
  let c0_i32_67 : BitVec 32 := 0#32
  let v180 : BitVec 1 := Scalar.cmpi .slt c256_i32_63 c0_i32_67
  let v181 : BitVec 32 := Scalar.extui v180
  let v182 : BitVec 32 := Scalar.subi v179 v181
  let v183 : BitVec 1 := Scalar.cmpi .ne v177 v182
  let v184 : BitVec 32 := Scalar.remsi v171 c256_i32_63
  let c0_i32_68 : BitVec 32 := 0#32
  let v185 : BitVec 1 := Scalar.cmpi .ne v184 c0_i32_68
  let v186 : BitVec 1 := Scalar.andi v183 v185
  let v172 : BitVec 32 := Scalar.divsi v171 c256_i32_63
  let c1_i32_69 : BitVec 32 := 1#32
  let v187 : BitVec 32 := Scalar.subi v172 c1_i32_69
  let v188 : BitVec 32 := Scalar.select v186 v187 v172
  let c1_i32_70 : BitVec 32 := 1#32
  let v189 : BitVec 32 := Scalar.addi v188 c1_i32_70
  let v190 : BitVec 32 := Scalar.subi v189 v167
  let c1_i32_72 : BitVec 32 := 1#32
  let v192 : BitVec 32 := Scalar.divsi v190 c1_i32_72
  let v193 : BitVec 32 := Scalar.muli v192 c1_i32_72
  let v194 : BitVec 32 := Scalar.addi v167 v193
  let v191 : BitVec 32 := Scalar.addi v167 v190
  let c1_i32_74 : BitVec 32 := 1#32
  ⟨v194, v191, c1_i32_74⟩
def k0_off2 (v150 : BitVec 32) (v171 : BitVec 32) (k0_t2 : Fin (k0_t2_loop v150 v171).trips) : Fin 2 → Nat :=
  let c0_i32_56 : BitVec 32 := 0#32
  let v152 : BitVec 1 := Scalar.cmpi .sgt v150 c0_i32_56
  let v153 : BitVec 32 := Scalar.extui v152
  let c0_i32_57 : BitVec 32 := 0#32
  let v154 : BitVec 1 := Scalar.cmpi .slt v150 c0_i32_57
  let v155 : BitVec 32 := Scalar.extui v154
  let v156 : BitVec 32 := Scalar.subi v153 v155
  let c256_i32 : BitVec 32 := 256#32
  let c0_i32_58 : BitVec 32 := 0#32
  let v157 : BitVec 1 := Scalar.cmpi .sgt c256_i32 c0_i32_58
  let v158 : BitVec 32 := Scalar.extui v157
  let c0_i32_59 : BitVec 32 := 0#32
  let v159 : BitVec 1 := Scalar.cmpi .slt c256_i32 c0_i32_59
  let v160 : BitVec 32 := Scalar.extui v159
  let v161 : BitVec 32 := Scalar.subi v158 v160
  let v162 : BitVec 1 := Scalar.cmpi .ne v156 v161
  let v163 : BitVec 32 := Scalar.remsi v150 c256_i32
  let c0_i32_60 : BitVec 32 := 0#32
  let v164 : BitVec 1 := Scalar.cmpi .ne v163 c0_i32_60
  let v165 : BitVec 1 := Scalar.andi v162 v164
  let v151 : BitVec 32 := Scalar.divsi v150 c256_i32
  let c1_i32_61 : BitVec 32 := 1#32
  let v166 : BitVec 32 := Scalar.subi v151 c1_i32_61
  let v167 : BitVec 32 := Scalar.select v165 v166 v151
  let c0_i32_64 : BitVec 32 := 0#32
  let v173 : BitVec 1 := Scalar.cmpi .sgt v171 c0_i32_64
  let v174 : BitVec 32 := Scalar.extui v173
  let c0_i32_65 : BitVec 32 := 0#32
  let v175 : BitVec 1 := Scalar.cmpi .slt v171 c0_i32_65
  let v176 : BitVec 32 := Scalar.extui v175
  let v177 : BitVec 32 := Scalar.subi v174 v176
  let c256_i32_63 : BitVec 32 := 256#32
  let c0_i32_66 : BitVec 32 := 0#32
  let v178 : BitVec 1 := Scalar.cmpi .sgt c256_i32_63 c0_i32_66
  let v179 : BitVec 32 := Scalar.extui v178
  let c0_i32_67 : BitVec 32 := 0#32
  let v180 : BitVec 1 := Scalar.cmpi .slt c256_i32_63 c0_i32_67
  let v181 : BitVec 32 := Scalar.extui v180
  let v182 : BitVec 32 := Scalar.subi v179 v181
  let v183 : BitVec 1 := Scalar.cmpi .ne v177 v182
  let v184 : BitVec 32 := Scalar.remsi v171 c256_i32_63
  let c0_i32_68 : BitVec 32 := 0#32
  let v185 : BitVec 1 := Scalar.cmpi .ne v184 c0_i32_68
  let v186 : BitVec 1 := Scalar.andi v183 v185
  let v172 : BitVec 32 := Scalar.divsi v171 c256_i32_63
  let c1_i32_69 : BitVec 32 := 1#32
  let v187 : BitVec 32 := Scalar.subi v172 c1_i32_69
  let v188 : BitVec 32 := Scalar.select v186 v187 v172
  let c1_i32_70 : BitVec 32 := 1#32
  let v189 : BitVec 32 := Scalar.addi v188 c1_i32_70
  let v190 : BitVec 32 := Scalar.subi v189 v167
  let c1_i32_72 : BitVec 32 := 1#32
  let v192 : BitVec 32 := Scalar.divsi v190 c1_i32_72
  let v193 : BitVec 32 := Scalar.muli v192 c1_i32_72
  let v194 : BitVec 32 := Scalar.addi v167 v193
  let c1_i32_74 : BitVec 32 := 1#32
  let arg12 : BitVec 32 := Scf.iv v194 c1_i32_74 k0_t2
  let c256_i32_76 : BitVec 32 := 256#32
  let v198 : BitVec 32 := Scalar.muli arg12 c256_i32_76
  let v206 : Index := Scalar.indexCast v198
  let c0_78 : Index := 0#32
  ![v206.toNat, 0]

def k0_chk1 (v150 : BitVec 32) (v171 : BitVec 32) : Prop :=
  ((k0_t1_loop v150 v171).OK) ∧
  (∀ k0_t1 : Fin (k0_t1_loop v150 v171).trips, ∀ a, (k0_off1 v150 v171 k0_t1) a + S256x204.size a ≤ S2048x204.size a) ∧
  ((k0_t2_loop v150 v171).OK) ∧
  (∀ k0_t2 : Fin (k0_t2_loop v150 v171).trips, ∀ a, (k0_off2 v150 v171 k0_t2) a + S256x204.size a ≤ S2048x204.size a)
theorem k0_t1_ok : ∀ (v150 : BitVec 32) (v171 : BitVec 32) (k0_hw1 : k0_chk1 v150 v171), (k0_t1_loop v150 v171).OK := fun v150 v171 k0_hw1 => k0_hw1.1
theorem k0_off1_inb : ∀ (v150 : BitVec 32) (v171 : BitVec 32) (k0_hw1 : k0_chk1 v150 v171) (k0_t1 : Fin (k0_t1_loop v150 v171).trips), ∀ a, (k0_off1 v150 v171 k0_t1) a + S256x204.size a ≤ S2048x204.size a := fun v150 v171 k0_hw1 k0_t1 => k0_hw1.2.1 k0_t1
theorem k0_t2_ok : ∀ (v150 : BitVec 32) (v171 : BitVec 32) (k0_hw1 : k0_chk1 v150 v171), (k0_t2_loop v150 v171).OK := fun v150 v171 k0_hw1 => k0_hw1.2.2.1
theorem k0_off2_inb : ∀ (v150 : BitVec 32) (v171 : BitVec 32) (k0_hw1 : k0_chk1 v150 v171) (k0_t2 : Fin (k0_t2_loop v150 v171).trips), ∀ a, (k0_off2 v150 v171 k0_t2) a + S256x204.size a ≤ S2048x204.size a := fun v150 v171 k0_hw1 k0_t2 => k0_hw1.2.2.2 k0_t2

def k0_cond2 (i : grid0.Coords) : BitVec 1 :=
  let arg0 : BitVec 32 := BitVec.ofNat 32 (i 0).val
  let c99_i32 : BitVec 32 := 99#32
  let v195 : BitVec 1 := Scalar.cmpi .eq arg0 c99_i32
  let v196 : BitVec 32 := Scalar.extui v195
  let c0_i32_75 : BitVec 32 := 0#32
  let v197 : BitVec 1 := Scalar.cmpi .ne v196 c0_i32_75
  v197

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x60 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x60 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x204 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x60 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S100000x3 : Shape := ⟨2, ![100000, 3]⟩
abbrev S100000 : Shape := ⟨1, ![100000]⟩
abbrev S100000x20 : Shape := ⟨2, ![100000, 20]⟩
abbrev S100000x20x3 : Shape := ⟨3, ![100000, 20, 3]⟩
abbrev S2048x20 : Shape := ⟨2, ![2048, 20]⟩
abbrev S_ : Shape := ⟨0, ![]⟩
abbrev S2048x3 : Shape := ⟨2, ![2048, 3]⟩
abbrev S100000x1 : Shape := ⟨2, ![100000, 1]⟩
abbrev S2048x1 : Shape := ⟨2, ![2048, 1]⟩
abbrev S100000x20x1 : Shape := ⟨3, ![100000, 20, 1]⟩
abbrev S100000x1x3 : Shape := ⟨3, ![100000, 1, 3]⟩
abbrev S2048x20x3 : Shape := ⟨3, ![2048, 20, 3]⟩
abbrev S100000x1x1 : Shape := ⟨3, ![100000, 1, 1]⟩
abbrev S1x100000x20 : Shape := ⟨3, ![1, 100000, 20]⟩
abbrev S3x100000x20 : Shape := ⟨3, ![3, 100000, 20]⟩

abbrev nBuf : Space → Nat
  | .hbm => 93
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S100000x20, .f32⟩
  | .hbm, ⟨3, _⟩ => ⟨S100000x20x3, .f32⟩
  | .hbm, ⟨4, _⟩ => ⟨S100000x20x3, .f32⟩
  | .hbm, ⟨5, _⟩ => ⟨S100000x20x3, .f32⟩
  | .hbm, ⟨6, _⟩ => ⟨S2048x20, .f32⟩
  | .hbm, ⟨7, _⟩ => ⟨S_, .f32⟩
  | .hbm, ⟨8, _⟩ => ⟨S2048x3, .f32⟩
  | .hbm, ⟨9, _⟩ => ⟨S100000x1, .i32⟩
  | .hbm, ⟨10, _⟩ => ⟨S2048x3, .f32⟩
  | .hbm, ⟨11, _⟩ => ⟨S_, .f32⟩
  | .hbm, ⟨12, _⟩ => ⟨S100000x1, .f32⟩
  | .hbm, ⟨13, _⟩ => ⟨S_, .f32⟩
  | .hbm, ⟨14, _⟩ => ⟨S2048x1, .f32⟩
  | .hbm, ⟨15, _⟩ => ⟨S100000x1, .i32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x3, .f32⟩
  | .hbm, ⟨21, _⟩ => ⟨S2048x3, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x3, .f32⟩
  | .hbm, ⟨31, _⟩ => ⟨S100000x3, .f32⟩
  | .hbm, ⟨32, _⟩ => ⟨S100000x20x1, .f32⟩
  | .hbm, ⟨33, _⟩ => ⟨S100000x1x3, .f32⟩
  | .hbm, ⟨34, _⟩ => ⟨S100000x20x3, .f32⟩
  | .hbm, ⟨35, _⟩ => ⟨S100000x20x3, .f32⟩
  | .hbm, ⟨36, _⟩ => ⟨S100000x20x3, .f32⟩
  | .hbm, ⟨37, _⟩ => ⟨S100000x20x3, .f32⟩
  | .hbm, ⟨38, _⟩ => ⟨S_, .f32⟩
  | .hbm, ⟨39, _⟩ => ⟨S2048x20x3, .f32⟩
  | .hbm, ⟨40, _⟩ => ⟨S100000x1, .i32⟩
  | .hbm, ⟨41, _⟩ => ⟨S2048x20x3, .f32⟩
  | .hbm, ⟨42, _⟩ => ⟨S100000x1x3, .f32⟩
  | .hbm, ⟨43, _⟩ => ⟨S100000x1x1, .f32⟩
  | .hbm, ⟨44, _⟩ => ⟨S100000x1, .f32⟩
  | .hbm, ⟨45, _⟩ => ⟨S100000x1x1, .f32⟩
  | .hbm, ⟨46, _⟩ => ⟨S100000x1, .f32⟩
  | .hbm, ⟨47, _⟩ => ⟨S100000x1x1, .f32⟩
  | .hbm, ⟨48, _⟩ => ⟨S100000x1, .f32⟩
  | .hbm, ⟨49, _⟩ => ⟨S100000x20x1, .f32⟩
  | .hbm, ⟨50, _⟩ => ⟨S100000x20, .f32⟩
  | .hbm, ⟨51, _⟩ => ⟨S100000x20x1, .f32⟩
  | .hbm, ⟨52, _⟩ => ⟨S100000x20, .f32⟩
  | .hbm, ⟨53, _⟩ => ⟨S100000x20x1, .f32⟩
  | .hbm, ⟨54, _⟩ => ⟨S100000x20, .f32⟩
  | .hbm, ⟨55, _⟩ => ⟨S100000x20, .f32⟩
  | .hbm, ⟨56, _⟩ => ⟨S100000x20, .f32⟩
  | .hbm, ⟨57, _⟩ => ⟨S100000x20, .f32⟩
  | .hbm, ⟨58, _⟩ => ⟨S100000x20, .f32⟩
  | .hbm, ⟨59, _⟩ => ⟨S100000x20, .f32⟩
  | .hbm, ⟨60, _⟩ => ⟨S100000x20, .f32⟩
  | .hbm, ⟨61, _⟩ => ⟨S100000x20, .f32⟩
  | .hbm, ⟨62, _⟩ => ⟨S100000x20, .f32⟩
  | .hbm, ⟨63, _⟩ => ⟨S100000x20, .f32⟩
  | .hbm, ⟨64, _⟩ => ⟨S100000x20, .f32⟩
  | .hbm, ⟨65, _⟩ => ⟨S100000x20, .f32⟩
  | .hbm, ⟨66, _⟩ => ⟨S100000x20, .f32⟩
  | .hbm, ⟨67, _⟩ => ⟨S100000x20, .f32⟩
  | .hbm, ⟨68, _⟩ => ⟨S100000x20, .f32⟩
  | .hbm, ⟨69, _⟩ => ⟨S100000x20, .f32⟩
  | .hbm, ⟨70, _⟩ => ⟨S1x100000x20, .f32⟩
  | .hbm, ⟨71, _⟩ => ⟨S1x100000x20, .f32⟩
  | .hbm, ⟨72, _⟩ => ⟨S1x100000x20, .f32⟩
  | .hbm, ⟨73, _⟩ => ⟨S3x100000x20, .f32⟩
  | .hbm, ⟨74, _⟩ => ⟨S100000x20x3, .f32⟩
  | .hbm, ⟨75, _⟩ => ⟨S_, .f32⟩
  | .hbm, ⟨76, _⟩ => ⟨S100000x20x3, .f32⟩
  | .hbm, ⟨77, _⟩ => ⟨S100000x20x3, .f32⟩
  | .hbm, ⟨78, _⟩ => ⟨S100000x20x3, .f32⟩
  | .hbm, ⟨79, _⟩ => ⟨S_, .f32⟩
  | .hbm, ⟨80, _⟩ => ⟨S2048x20x3, .f32⟩
  | .hbm, ⟨81, _⟩ => ⟨S100000x1, .i32⟩
  | .hbm, ⟨82, _⟩ => ⟨S2048x20x3, .f32⟩
  | .hbm, ⟨83, _⟩ => ⟨S2048x20x3, .f32⟩
  | .hbm, ⟨84, _⟩ => ⟨S_, .f32⟩
  | .hbm, ⟨85, _⟩ => ⟨S2048x20, .f32⟩
  | .hbm, ⟨86, _⟩ => ⟨S_, .f32⟩
  | .hbm, ⟨87, _⟩ => ⟨S2048x20, .f32⟩
  | .hbm, ⟨88, _⟩ => ⟨S2048x20, .f32⟩
  | .hbm, ⟨89, _⟩ => ⟨S_, .f32⟩
  | .hbm, ⟨90, _⟩ => ⟨S2048x20, .f32⟩
  | .hbm, ⟨91, _⟩ => ⟨S2048x20, .f32⟩
  | .hbm, ⟨92, _⟩ => ⟨S2048x20, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_v15 : Ref sig .tc := ⟨.hbm, 58, rfl⟩
abbrev main_call0_v16 : Ref sig .tc := ⟨.hbm, 59, rfl⟩
abbrev main_call0_v17 : Ref sig .tc := ⟨.hbm, 60, rfl⟩
abbrev main_call0_v18 : Ref sig .tc := ⟨.hbm, 61, rfl⟩
abbrev main_call0_v19 : Ref sig .tc := ⟨.hbm, 62, rfl⟩
abbrev main_call0_v20 : Ref sig .tc := ⟨.hbm, 63, rfl⟩
abbrev main_call0_v21 : Ref sig .tc := ⟨.hbm, 64, rfl⟩
abbrev main_call0_v22 : Ref sig .tc := ⟨.hbm, 65, rfl⟩
abbrev main_call0_v23 : Ref sig .tc := ⟨.hbm, 66, rfl⟩
abbrev main_call0_v24 : Ref sig .tc := ⟨.hbm, 67, rfl⟩
abbrev main_call0_v25 : Ref sig .tc := ⟨.hbm, 68, rfl⟩
abbrev main_call0_v26 : Ref sig .tc := ⟨.hbm, 69, rfl⟩
abbrev main_call0_v27 : Ref sig .tc := ⟨.hbm, 70, rfl⟩
abbrev main_call0_v28 : Ref sig .tc := ⟨.hbm, 71, rfl⟩
abbrev main_call0_v29 : Ref sig .tc := ⟨.hbm, 72, rfl⟩
abbrev main_call0_v30 : Ref sig .tc := ⟨.hbm, 73, rfl⟩
abbrev main_v29 : Ref sig .tc := ⟨.hbm, 74, rfl⟩
abbrev main_cst_5 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_6 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_7 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_cst_9 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩

abbrev nD : Nat := 1
abbrev τ : Topo := Topo.v7x

variable {F : FTy → Type} [FloatOps F]
-- ==== Proof.Words.lean ====
/-
  The words the kernel computes from the least and the greatest segment number of a block of rows: the number of the
  256-row window each lies in (a floor division by 256, written out on signed words), the loop that walks the windows
  from the first to the last, and the rows a trip of that loop touches. All of it is stated for segment numbers below
  2048, the number of rows of the accumulator.
-/
module

public import proofs.«01_k».proof.Proof.Gen.KernelIdeal.Skeleton
public import Idealize.ShloMosaic.Lib.Affine

@[expose] public section

namespace Cert.KernelIdeal.Body

open Idealize.ShloMosaic

/-- Floor division of a signed word by 256, the way the kernel writes it: the truncated quotient, less one where the
    signs differ and the remainder isn't zero. -/
def floorDiv256 (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 256#32 0#32)) (Scalar.extui (Scalar.cmpi .slt 256#32 0#32))))
      (Scalar.cmpi .ne (Scalar.remsi v 256#32) 0#32))
    (Scalar.subi (Scalar.divsi v 256#32) 1#32) (Scalar.divsi v 256#32)

/-- Of a segment number it's the plain quotient. -/
theorem floorDiv256_ofNat : ∀ n : Fin 2048, floorDiv256 (BitVec.ofNat 32 n.val) = BitVec.ofNat 32 (n.val / 256) := by
  decide +kernel

/-- The last window's bound, as the kernel's first loop states it. -/
theorem upper_of_windows : ∀ p q : Fin 8, Scalar.addi (BitVec.ofNat 32 p.val)
    (Scalar.muli (Scalar.divsi (Scalar.subi (Scalar.addi (BitVec.ofNat 32 q.val) 1#32) (BitVec.ofNat 32 p.val)) 1#32) 1#32)
      = BitVec.ofNat 32 (q.val + 1) := by
  decide +kernel

/-- The same bound as its second loop states it. -/
theorem upper_of_windows' : ∀ p q : Fin 8, Scalar.addi (BitVec.ofNat 32 p.val)
    (Scalar.subi (Scalar.addi (BitVec.ofNat 32 q.val) 1#32) (BitVec.ofNat 32 p.val)) = BitVec.ofNat 32 (q.val + 1) := by
  decide +kernel

/-- The first loop walks the windows from the least segment number's to the greatest's. -/
theorem loop1_eq (a b : Fin 2048) : k0_t1_loop (BitVec.ofNat 32 a.val) (BitVec.ofNat 32 b.val)
    = ⟨BitVec.ofNat 32 (a.val / 256), BitVec.ofNat 32 (b.val / 256 + 1), 1#32⟩ := by
  have h : k0_t1_loop (BitVec.ofNat 32 a.val) (BitVec.ofNat 32 b.val)
      = ⟨floorDiv256 (BitVec.ofNat 32 a.val), Scalar.addi (floorDiv256 (BitVec.ofNat 32 a.val))
          (Scalar.muli (Scalar.divsi (Scalar.subi (Scalar.addi (floorDiv256 (BitVec.ofNat 32 b.val)) 1#32)
            (floorDiv256 (BitVec.ofNat 32 a.val))) 1#32) 1#32), 1#32⟩ := rfl
  rw [h, floorDiv256_ofNat, floorDiv256_ofNat]
  rw [upper_of_windows ⟨a.val / 256, by omega⟩ ⟨b.val / 256, by omega⟩]

/-- The second loop starts where it ends. -/
theorem loop2_eq (a b : Fin 2048) : k0_t2_loop (BitVec.ofNat 32 a.val) (BitVec.ofNat 32 b.val)
    = ⟨BitVec.ofNat 32 (b.val / 256 + 1), BitVec.ofNat 32 (b.val / 256 + 1), 1#32⟩ := by
  have h : k0_t2_loop (BitVec.ofNat 32 a.val) (BitVec.ofNat 32 b.val)
      = ⟨Scalar.addi (floorDiv256 (BitVec.ofNat 32 a.val))
          (Scalar.muli (Scalar.divsi (Scalar.subi (Scalar.addi (floorDiv256 (BitVec.ofNat 32 b.val)) 1#32)
            (floorDiv256 (BitVec.ofNat 32 a.val))) 1#32) 1#32),
         Scalar.addi (floorDiv256 (BitVec.ofNat 32 a.val)) (Scalar.subi (Scalar.addi (floorDiv256 (BitVec.ofNat 32 b.val)) 1#32)
            (floorDiv256 (BitVec.ofNat 32 a.val))), 1#32⟩ := rfl
  rw [h, floorDiv256_ofNat, floorDiv256_ofNat]
  rw [upper_of_windows ⟨a.val / 256, by omega⟩ ⟨b.val / 256, by omega⟩, upper_of_windows' ⟨a.val / 256, by omega⟩ ⟨b.val / 256, by omega⟩]

private theorem small (n : ℕ) (h : n < 9) : Affine.IsInt (BitVec.ofNat 32 n) n := Affine.ofNat n ⟨rfl, by omega⟩

/-- The number of windows walked. -/
theorem trips1_eq (a b : Fin 2048) (h : a.val ≤ b.val) :
    (k0_t1_loop (BitVec.ofNat 32 a.val) (BitVec.ofNat 32 b.val)).trips = b.val / 256 + 1 - a.val / 256 := by
  rw [loop1_eq]
  exact Affine.trips_eq (small _ (by omega)) (small _ (by omega)) (small 1 (by omega)) _ (by omega)

/-- The second loop makes no trip. -/
theorem trips2_eq (a b : Fin 2048) : (k0_t2_loop (BitVec.ofNat 32 a.val) (BitVec.ofNat 32 b.val)).trips = 0 := by
  rw [loop2_eq]
  exact Affine.trips_eq (small _ (by omega)) (small _ (by omega)) (small 1 (by omega)) _ (by omega)

/-- The word a trip walks with: the first window's number and the trip's. -/
theorem iv_eq (a : Fin 2048) (k : ℕ) (hk : k < 9) :
    Scf.iv (floorDiv256 (BitVec.ofNat 32 a.val)) 1#32 k = BitVec.ofNat 32 (a.val / 256 + k) := by
  rw [floorDiv256_ofNat]
  have h : ∀ p : Fin 8, ∀ k : Fin 9, Scf.iv (BitVec.ofNat 32 p.val) 1#32 k.val = BitVec.ofNat 32 (p.val + k.val) := by decide +kernel
  exact h ⟨a.val / 256, by omega⟩ ⟨k, hk⟩

/-- Its first row, as a word and as a number. -/
theorem row_word : ∀ n : Fin 9, Scalar.muli (BitVec.ofNat 32 n.val) 256#32 = BitVec.ofNat 32 (256 * n.val) := by decide +kernel

/-- The rows a trip touches start at 256 times its window's number. -/
theorem off1_eq (a b : Fin 2048) (h : a.val ≤ b.val) (k : Fin (k0_t1_loop (BitVec.ofNat 32 a.val) (BitVec.ofNat 32 b.val)).trips) :
    k0_off1 (BitVec.ofNat 32 a.val) (BitVec.ofNat 32 b.val) k = ![256 * (a.val / 256 + k.val), 0] := by
  have hk := k.isLt.trans_eq (trips1_eq a b h)
  have e : k0_off1 (BitVec.ofNat 32 a.val) (BitVec.ofNat 32 b.val) k
      = ![(Scalar.muli (Scf.iv (floorDiv256 (BitVec.ofNat 32 a.val)) 1#32 k.val) 256#32).toNat, 0] := rfl
  rw [e, iv_eq a k.val (by omega), row_word ⟨a.val / 256 + k.val, by omega⟩, BitVec.toNat_ofNat, Nat.mod_eq_of_lt (by show 256 * (a.val / 256 + k.val) < _; omega)]

/-- What the kernel takes for granted of the two words holds of segment numbers in order. -/
theorem chk_ofNat (a b : Fin 2048) (h : a.val ≤ b.val) : k0_chk1 (BitVec.ofNat 32 a.val) (BitVec.ofNat 32 b.val) := by
  refine ⟨?_, ?_, ?_, ?_⟩
  · rw [loop1_eq]
    exact Affine.ok (small _ (by omega)) (small _ (by omega)) (small 1 (by omega)) (by omega)
  · intro k d
    have hk := k.isLt.trans_eq (trips1_eq a b h)
    rw [off1_eq a b h k]
    match d with
    | ⟨0, _⟩ => show 256 * (a.val / 256 + k.val) + 256 ≤ 2048; omega
    | ⟨1, _⟩ => show 0 + 204 ≤ 204; omega
  · rw [loop2_eq]
    exact Affine.ok (small _ (by omega)) (small _ (by omega)) (small 1 (by omega)) (by omega)
  · intro k
    have hk := k.isLt.trans_eq (trips2_eq a b)
    exact absurd hk (Nat.not_lt_zero _)

end Cert.KernelIdeal.Body
-- ==== Proof.Body.lean ====
/-
  The kernel's body at a grid point, by the values its buffers hold: what one block of rows adds to the accumulator
  (the loop over 256-row windows put in closed form), and what the last point makes of the accumulator.
-/
module

public import proofs.«01_k».proof.Proof.Words
public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The values -/

/-- The least and the greatest segment number of a block of rows. -/
abbrev idMin (x0 : IVec S1000x1 32) : BitVec 32 := extractAt ![0, 0, 0] (k0_pay47 (k0_pay27 (F := F) x0)) inpos_S1x1x1_p0_0_0
abbrev idMax (x0 : IVec S1000x1 32) : BitVec 32 := extractAt ![0, 0, 0] (k0_pay1 (k0_pay48 (k0_pay27 (F := F) x0))) inpos_S1x1x1_p0_0_0

/-- A component of the half cross product of position and velocity: the two it's made of are the position's
    columns and the velocity's selections. -/
abbrev crossZ (x1 : Vec F S1000x3 .f32) (x5 : Vec F S1000x60 .f32) : FVec F S1000x20 .f32 :=
  k0_pay39 (k0_pay31 x1) (k0_pay32 x1) (k0_pay34 x5) (k0_pay35 x5)
abbrev crossX (x1 : Vec F S1000x3 .f32) (x5 : Vec F S1000x60 .f32) : FVec F S1000x20 .f32 :=
  k0_pay37 (k0_pay30 x5) (k0_pay32 x1) (k0_pay33 x1) (k0_pay35 x5) (iota .tc S20x60 32 [0] iota_S20x60_d0_w32) (iota .tc S20x60 32 [1] iota_S20x60_d1_w32)
abbrev crossY (x1 : Vec F S1000x3 .f32) (x5 : Vec F S1000x60 .f32) : FVec F S1000x20 .f32 :=
  k0_pay38 (k0_pay30 x5) (k0_pay31 x1) (k0_pay33 x1) (k0_pay34 x5) (iota .tc S20x60 32 [0] iota_S20x60_d0_w32) (iota .tc S20x60 32 [1] iota_S20x60_d1_w32)

/-- The 204 columns a block's rows contribute. -/
def features (x1 : Vec F S1000x3 .f32) (x2 : Vec F S1000x20 .f32) (x3 x4 x5 : Vec F S1000x60 .f32) : FVec F S1000x204 .f32 :=
  k0_pay45 x1 x2 (k0_pay29 x4) (k0_pay30 x5) (crossZ x1 x5)
    (k0_pay43 x2 (k0_pay33 x1) (k0_pay40 x2 (k0_pay28 x3) (k0_pay31 x1)) (k0_pay41 x2 (k0_pay32 x1)) k0_pay42 (Scalar.ofBits .f32 0x3F800000#32))
    (k0_pay44 (crossX x1 x5) (crossY x1 x5)) (iota .tc S20x60 32 [0] iota_S20x60_d0_w32)

/-- The accumulator after `k` windows: each trip adds to its 256 rows. -/
def windows (v1 : IVec S1000x1 32) (f : FVec F S1000x204 .f32) (a b : BitVec 32) (hw : k0_chk1 a b) :
    ℕ → Vec F S2048x204 .f32 → Vec F S2048x204 .f32
  | 0, A => A
  | k + 1, A =>
    if h : k < (k0_t1_loop a b).trips then
      VecWindow.put (windows v1 f a b hw k A) (k0_off1 a b ⟨k, h⟩) S256x204.size
        (k0_pay2 v1 f (iota .tc S1000x256 32 [1] iota_S1000x256_d1_w32) a (floorDiv256 a) b ⟨k, h⟩
          (VecWindow.window (windows v1 f a b hw k A) (k0_off1 a b ⟨k, h⟩) S256x204.size (k0_off1_inb a b hw ⟨k, h⟩)))
    else windows v1 f a b hw k A

open Classical in
/-- What a block leaves in the accumulator found at `A`. Outside the range the kernel takes for granted it's `A`
    itself, a value nothing consults. -/
def accStep (x0 : Vec F S1000x1 .i32) (x1 : Vec F S1000x3 .f32) (x2 : Vec F S1000x20 .f32) (x3 x4 x5 : Vec F S1000x60 .f32)
    (A : Vec F S2048x204 .f32) : Vec F S2048x204 .f32 :=
  if hw : k0_chk1 (idMin (F := F) x0) (idMax (F := F) x0) then
    windows (k0_pay27 (F := F) x0) (features x1 x2 x3 x4 x5) (idMin (F := F) x0) (idMax (F := F) x0) hw (k0_t1_loop (idMin (F := F) x0) (idMax (F := F) x0)).trips A
  else A

theorem accStep_of (x0 : Vec F S1000x1 .i32) (x1 : Vec F S1000x3 .f32) (x2 : Vec F S1000x20 .f32) (x3 x4 x5 : Vec F S1000x60 .f32)
    (A : Vec F S2048x204 .f32) (hw : k0_chk1 (idMin (F := F) x0) (idMax (F := F) x0)) :
    windows (k0_pay27 (F := F) x0) (features x1 x2 x3 x4 x5) (idMin (F := F) x0) (idMax (F := F) x0) hw (k0_t1_loop (idMin (F := F) x0) (idMax (F := F) x0)).trips A
      = accStep x0 x1 x2 x3 x4 x5 A := by
  unfold accStep; rw [dif_pos hw]

/-- The three results, from the accumulator after the last block. -/
abbrev muOut (A : Vec F S2048x204 .f32) : FVec F S2048x60 .f32 :=
  k0_pay17 (k0_pay6 A) (k0_pay9 A) (k0_pay15 A) (k0_pay16 A)
abbrev mOut (A : Vec F S2048x204 .f32) : FVec F S2048x60 .f32 :=
  k0_pay24 (k0_pay7 A) (k0_pay21 (k0_pay12 A) (k0_pay13 A) (k0_pay18 (k0_pay8 A)) (k0_pay19 (k0_pay8 A)))
    (k0_pay22 (k0_pay8 A) (k0_pay12 A) (k0_pay13 A) (k0_pay14 A) (k0_pay18 (k0_pay8 A)) (k0_pay19 (k0_pay8 A)) k0_pay20)
    (iota .tc S20x60 32 [1] iota_S20x60_d1_w32) k0_pay23
abbrev rOut (A : Vec F S2048x204 .f32) (x6 : Vec F S2048x20 .f32) : FVec F S2048x20 .f32 :=
  k0_pay4 (muOut A) (mOut A) (k0_pay25 (F := F)) k0_pay26 (Scalar.ofBits .f32 0x3F800000#32) (Scalar.ofBits .f32 0x00000000#32) x6

/-! ## The loop over windows, in closed form -/

/-- What a trip stores: its window, with the rows it adds. -/
theorem trip_pieces (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole)
    (v1 : IVec S1000x1 32) (f : FVec F S1000x204 .f32) (v146 : IVec S1000x256 32) (a v167 b : BitVec 32) (hw : k0_chk1 a b)
    (k : Fin (k0_t1_loop a b).trips) (G : BufTy.Contents (Elt F) arg8.view.ty) :
    tripL_k0_t1 (F := F) Variants.none c none i arg1 harg1 arg2 harg2 arg3 harg3 arg4 harg4 arg5 harg5 arg6 harg6 arg7 harg7 arg8 harg8 arg9 harg9 arg10 harg10 arg11 harg11 v1 f v146 a v167 b hw k G
      = [⟨Rect.unit (s := S2048x204) (k0_off1 a b k) S256x204.size (k0_off1_inb a b hw k),
          k0_pay2 v1 f v146 a v167 b k (arg8.view.readAt (Elt F) (Rect.unit (s := S2048x204) (k0_off1 a b k) S256x204.size (k0_off1_inb a b hw k)).toLoadRect G)⟩] := by
  unfold tripL_k0_t1 trip_k0_t1
  rfl

/-- What `k` trips leave. -/
theorem read_loop1 (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole)
    (v1 : IVec S1000x1 32) (f : FVec F S1000x204 .f32) (a b : BitVec 32) (hw : k0_chk1 a b)
    (G : BufTy.Contents (Elt F) arg8.view.ty) (k : ℕ) (hk : k ≤ (k0_t1_loop a b).trips) :
    arg8.view.read (Elt F) (arg8.view.writes (Elt F) G (pb_k0_t1 (F := F) Variants.none c none i arg1 harg1 arg2 harg2 arg3 harg3 arg4 harg4 arg5 harg5 arg6 harg6 arg7 harg7 arg8 harg8 arg9 harg9 arg10 harg10 arg11 harg11 v1 f
        (iota .tc S1000x256 32 [1] iota_S1000x256_d1_w32) a (floorDiv256 a) b hw G k))
      = windows v1 f a b hw k (arg8.view.read (Elt F) G) := by
  induction k with
  | zero => rfl
  | succ k ih =>
    have h : k < (k0_t1_loop a b).trips := hk
    have e := pb_k0_t1_succ (F := F) Variants.none c none i arg1 harg1 arg2 harg2 arg3 harg3 arg4 harg4 arg5 harg5 arg6 harg6 arg7 harg7 arg8 harg8 arg9 harg9 arg10 harg10 arg11 harg11 v1 f
        (iota .tc S1000x256 32 [1] iota_S1000x256_d1_w32) a (floorDiv256 a) b hw G ⟨k, h⟩
    dsimp only at e
    rw [e, trip_pieces, List.singleton_append, View.read_writes_cons_put _ _ _ _ _ rfl, ih h.le,
      View.readAt_unit _ _ _ rfl (k0_off1_inb a b hw ⟨k, h⟩), ih h.le, windows, dif_pos h]

/-- The second loop makes no trip and stores nothing. -/
theorem loop2_none (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole)
    (v1 : IVec S1000x1 32) (f : FVec F S1000x204 .f32) (v146 : IVec S1000x256 32) (a v167 : BitVec 32) (v168 : IVec S1x1000x1 32) (b : BitVec 32) (hw : k0_chk1 a b)
    (h2 : (k0_t2_loop a b).trips = 0) (G : BufTy.Contents (Elt F) arg8.view.ty) :
    pb_k0_t2 (F := F) Variants.none c none i arg1 harg1 arg2 harg2 arg3 harg3 arg4 harg4 arg5 harg5 arg6 harg6 arg7 harg7 arg8 harg8 arg9 harg9 arg10 harg10 arg11 harg11 v1 f v146 a v167 v168 b hw G (k0_t2_loop a b).trips = [] := by
  rw [h2]; rfl

end Cert.KernelIdeal.Body
-- ==== Proof.Run.lean ====
/-
  The body run at a point of each kind: the first (which clears the accumulator), one in the middle, and the last
  (which makes the results of the accumulator). Each run is stated by the values the buffers hold before and after.
-/
module

public import proofs.«01_k».proof.Proof.Body

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The block's segment numbers are below the accumulator's 2048 rows, as what the kernel takes for granted. -/
abbrev BlockOK (x0 : Vec F S1000x1 .i32) : Prop :=
  k0_chk1 (idMin (F := F) x0) (idMax (F := F) x0) ∧ (k0_t2_loop (idMin (F := F) x0) (idMax (F := F) x0)).trips = 0

/-- A load of a whole buffer reads what it holds. -/
theorem load_whole {sp : Space} {s : Shape} {e : EltTy} (m : Memref sig .tc sp s e) (h : m.IsWhole) (x : Vec F s e) {off : Fin s.rank → ℕ}
    (inb : ∀ a, off a + s.size a ≤ s.size a) :
    m.view.readAt (Elt F) (Rect.unit (s := s) off s.size inb).toLoadRect (h.unread x) = x :=
  (View.readAt_full _ _ _).trans (h.read_unread _)

/-- The features of loaded values. -/
theorem features_of {y1 x1 : Vec F S1000x3 .f32} {y2 x2 : Vec F S1000x20 .f32} {y3 x3 y4 x4 y5 x5 : Vec F S1000x60 .f32}
    (h1 : y1 = x1) (h2 : y2 = x2) (h3 : y3 = x3) (h4 : y4 = x4) (h5 : y5 = x5) : features y1 y2 y3 y4 y5 = features x1 x2 x3 x4 x5 := by
  subst h1 h2 h3 h4 h5; rfl

/-- The accumulator after both loops, read: the step from the contents `G` found, whatever names the loaded values go by. -/
theorem read_loops (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole)
    (x0 : Vec F S1000x1 .i32) (x1 : Vec F S1000x3 .f32) (x2 : Vec F S1000x20 .f32) (x3 x4 x5 : Vec F S1000x60 .f32) (hx : BlockOK (F := F) x0)
    (v1 : IVec S1000x1 32) (f : FVec F S1000x204 .f32) (v146 : IVec S1000x256 32) (a v167 : BitVec 32) (v168 : IVec S1x1000x1 32) (b : BitVec 32) (hw hw' : k0_chk1 a b)
    (G G' : BufTy.Contents (Elt F) arg8.view.ty) (A : Vec F S2048x204 .f32) (hA : arg8.view.read (Elt F) G = A)
    (h1 : v1 = k0_pay27 (F := F) x0) (hf : f = features x1 x2 x3 x4 x5) (h146 : v146 = iota .tc S1000x256 32 [1] iota_S1000x256_d1_w32)
    (ha : a = idMin (F := F) x0) (h167 : v167 = floorDiv256 (idMin (F := F) x0)) (hb : b = idMax (F := F) x0) :
    arg8.view.read (Elt F) (arg8.view.writes (Elt F) G
        (pb_k0_t2 (F := F) Variants.none c none i arg1 harg1 arg2 harg2 arg3 harg3 arg4 harg4 arg5 harg5 arg6 harg6 arg7 harg7 arg8 harg8 arg9 harg9 arg10 harg10 arg11 harg11 v1 f v146 a v167 v168 b hw' G' (k0_t2_loop a b).trips
          ++ pb_k0_t1 (F := F) Variants.none c none i arg1 harg1 arg2 harg2 arg3 harg3 arg4 harg4 arg5 harg5 arg6 harg6 arg7 harg7 arg8 harg8 arg9 harg9 arg10 harg10 arg11 harg11 v1 f v146 a v167 b hw G (k0_t1_loop a b).trips))
      = accStep x0 x1 x2 x3 x4 x5 A := by
  cases hA; subst h1; subst hf; subst h146; subst h167
  replace ha := ha.symm; replace hb := hb.symm
  subst ha; subst hb
  rw [loop2_none c i arg1 harg1 arg2 harg2 arg3 harg3 arg4 harg4 arg5 harg5 arg6 harg6 arg7 harg7 arg8 harg8 arg9 harg9 arg10 harg10 arg11 harg11 _ _ _ _ _ _ _ hw' hx.2, List.nil_append]
  rw [read_loop1 c i arg1 harg1 arg2 harg2 arg3 harg3 arg4 harg4 arg5 harg5 arg6 harg6 arg7 harg7 arg8 harg8 arg9 harg9 arg10 harg10 arg11 harg11 _ _ _ _ hw G (k0_t1_loop (idMin (F := F) x0) (idMax (F := F) x0)).trips (Nat.le_refl _), accStep_of x0 x1 x2 x3 x4 x5 _ hw]

/-- The same where the accumulator was stored before the loops (`L`). -/
theorem read_loops_over (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole)
    (x0 : Vec F S1000x1 .i32) (x1 : Vec F S1000x3 .f32) (x2 : Vec F S1000x20 .f32) (x3 x4 x5 : Vec F S1000x60 .f32) (hx : BlockOK (F := F) x0)
    (v1 : IVec S1000x1 32) (f : FVec F S1000x204 .f32) (v146 : IVec S1000x256 32) (a v167 : BitVec 32) (v168 : IVec S1x1000x1 32) (b : BitVec 32) (hw hw' : k0_chk1 a b)
    (G G' : BufTy.Contents (Elt F) arg8.view.ty) (L : List (View.Piece (Elt F) S2048x204 .f32)) (A : Vec F S2048x204 .f32)
    (hA : arg8.view.read (Elt F) (arg8.view.writes (Elt F) G L) = A)
    (h1 : v1 = k0_pay27 (F := F) x0) (hf : f = features x1 x2 x3 x4 x5) (h146 : v146 = iota .tc S1000x256 32 [1] iota_S1000x256_d1_w32)
    (ha : a = idMin (F := F) x0) (h167 : v167 = floorDiv256 (idMin (F := F) x0)) (hb : b = idMax (F := F) x0) :
    arg8.view.read (Elt F) (arg8.view.writes (Elt F) G
        (pb_k0_t2 (F := F) Variants.none c none i arg1 harg1 arg2 harg2 arg3 harg3 arg4 harg4 arg5 harg5 arg6 harg6 arg7 harg7 arg8 harg8 arg9 harg9 arg10 harg10 arg11 harg11 v1 f v146 a v167 v168 b hw' G' (k0_t2_loop a b).trips
          ++ (pb_k0_t1 (F := F) Variants.none c none i arg1 harg1 arg2 harg2 arg3 harg3 arg4 harg4 arg5 harg5 arg6 harg6 arg7 harg7 arg8 harg8 arg9 harg9 arg10 harg10 arg11 harg11 v1 f v146 a v167 b hw (arg8.view.writes (Elt F) G L) (k0_t1_loop a b).trips ++ L)))
      = accStep x0 x1 x2 x3 x4 x5 A := by
  cases hA; subst h1; subst hf; subst h146; subst h167
  replace ha := ha.symm; replace hb := hb.symm
  subst ha; subst hb
  rw [loop2_none c i arg1 harg1 arg2 harg2 arg3 harg3 arg4 harg4 arg5 harg5 arg6 harg6 arg7 harg7 arg8 harg8 arg9 harg9 arg10 harg10 arg11 harg11 _ _ _ _ _ _ _ hw' hx.2, List.nil_append, View.writes_append]
  rw [read_loop1 c i arg1 harg1 arg2 harg2 arg3 harg3 arg4 harg4 arg5 harg5 arg6 harg6 arg7 harg7 arg8 harg8 arg9 harg9 arg10 harg10 arg11 harg11 _ _ _ _ hw _ (k0_t1_loop (idMin (F := F) x0) (idMax (F := F) x0)).trips (Nat.le_refl _), accStep_of x0 x1 x2 x3 x4 x5 _ hw]

set_option maxHeartbeats 2000000 in
/-- A point in the middle: the block is added to the accumulator, the results untouched. -/
theorem run_mid (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole) (hc0 : ¬(Scalar.cmpi .ne (Scalar.extui (Scalar.cmpi .eq (BitVec.ofNat 32 (i 0).val) 0#32)) 0#32 = 1#1)) (hc1 : ¬k0_cond2 i = 1#1)
    (x0 : Vec F S1000x1 .i32) (x1 : Vec F S1000x3 .f32) (x2 : Vec F S1000x20 .f32) (x3 : Vec F S1000x60 .f32) (x4 : Vec F S1000x60 .f32) (x5 : Vec F S1000x60 .f32) (x6 : Vec F S2048x20 .f32) (A : Vec F S2048x204 .f32) (d8 d9 : Vec F S2048x60 .f32) (d10 : Vec F S2048x20 .f32) (hx : BlockOK (F := F) x0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare A ∗ owns (c : Thread nD τ) arg9 fullShare d8 ∗ owns (c : Thread nD τ) arg10 fullShare d9 ∗ owns (c : Thread nD τ) arg11 fullShare d10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 x4 x5 A) ∗ owns (c : Thread nD τ) arg9 fullShare d8 ∗ owns (c : Thread nD τ) arg10 fullShare d9 ∗ owns (c : Thread nD τ) arg11 fullShare d10) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8 arg9 harg9 arg10 harg10 arg11 harg11) K := by
  simp only [cc0__agg_kernel_eq_skeleton]; unfold cc0__agg_kernel_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6;
  have hload : ∀ (v : Vec F S1000x1 .i32) (inb : ∀ a, (![0, 0] : Fin 2 → ℕ) a + S1000x1.size a ≤ S1000x1.size a),
      v = arg1.view.readAt (Elt F) (Rect.unit (s := S1000x1) ![0, 0] S1000x1.size inb).toLoadRect (harg1.unread x0) → v = x0 := by
    intro v inb h; rw [h]; exact load_whole _ _ _ _
  have hchk : ∀ v, v = x0 → k0_chk1 (idMin (F := F) v) (idMax (F := F) v) := fun v h => h ▸ hx.1
  sl_exec (disch := first | sl_exact hc0 | sl_exact hc1 | exact hchk _ (hload _ _ rfl))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine read_loops c i arg1 harg1 arg2 harg2 arg3 harg3 arg4 harg4 arg5 harg5 arg6 harg6 arg7 harg7 arg8 harg8 arg9 harg9 arg10 harg10 arg11 harg11 x0 x1 x2 x3 x4 x5 hx _ _ _ _ _ _ _ _ _ _ _ _ hf7 ?_ ?_ ?_ ?_ ?_ ?_
    · exact congrArg (k0_pay27 (F := F)) (load_whole _ harg1 x0 _)
    · exact features_of (load_whole _ harg2 x1 _) (load_whole _ harg3 x2 _) (load_whole _ harg4 x3 _) (load_whole _ harg5 x4 _) (load_whole _ harg6 x5 _)
    · rfl
    · exact congrArg (idMin (F := F)) (load_whole _ harg1 x0 _)
    · exact congrArg (fun y => floorDiv256 (idMin (F := F) y)) (load_whole _ harg1 x0 _)
    · exact congrArg (idMax (F := F)) (load_whole _ harg1 x0 _)

  isplitl [H8]
  · iexists _; isplitr; · ipureintro; exact hf8
    iexact H8
  isplitl [H9]
  · iexists _; isplitr; · ipureintro; exact hf9
    iexact H9
  iexists _; isplitr; · ipureintro; exact hf10
  iexact H10

set_option maxHeartbeats 2000000 in
/-- The first point: the accumulator is cleared, then the block added. -/
theorem run_first (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole) (hc0 : Scalar.cmpi .ne (Scalar.extui (Scalar.cmpi .eq (BitVec.ofNat 32 (i 0).val) 0#32)) 0#32 = 1#1) (hc1 : ¬k0_cond2 i = 1#1)
    (x0 : Vec F S1000x1 .i32) (x1 : Vec F S1000x3 .f32) (x2 : Vec F S1000x20 .f32) (x3 : Vec F S1000x60 .f32) (x4 : Vec F S1000x60 .f32) (x5 : Vec F S1000x60 .f32) (x6 : Vec F S2048x20 .f32) (d8 d9 : Vec F S2048x60 .f32) (d10 : Vec F S2048x20 .f32) (hx : BlockOK (F := F) x0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d8 ∗ owns (c : Thread nD τ) arg10 fullShare d9 ∗ owns (c : Thread nD τ) arg11 fullShare d10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 x4 x5 (k0_pay46 (F := F))) ∗ owns (c : Thread nD τ) arg9 fullShare d8 ∗ owns (c : Thread nD τ) arg10 fullShare d9 ∗ owns (c : Thread nD τ) arg11 fullShare d10) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8 arg9 harg9 arg10 harg10 arg11 harg11) K := by
  simp only [cc0__agg_kernel_eq_skeleton]; unfold cc0__agg_kernel_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6;
  have hload : ∀ (v : Vec F S1000x1 .i32) (inb : ∀ a, (![0, 0] : Fin 2 → ℕ) a + S1000x1.size a ≤ S1000x1.size a),
      v = arg1.view.readAt (Elt F) (Rect.unit (s := S1000x1) ![0, 0] S1000x1.size inb).toLoadRect (harg1.unread x0) → v = x0 := by
    intro v inb h; rw [h]; exact load_whole _ _ _ _
  have hchk : ∀ v, v = x0 → k0_chk1 (idMin (F := F) v) (idMax (F := F) v) := fun v h => h ▸ hx.1
  sl_exec (disch := first | sl_exact hc0 | sl_exact hc1 | exact hchk _ (hload _ _ rfl))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine read_loops_over c i arg1 harg1 arg2 harg2 arg3 harg3 arg4 harg4 arg5 harg5 arg6 harg6 arg7 harg7 arg8 harg8 arg9 harg9 arg10 harg10 arg11 harg11 x0 x1 x2 x3 x4 x5 hx _ _ _ _ _ _ _ _ _ _ _ _ _ (View.read_writes_full _ _ _ _ _) ?_ ?_ ?_ ?_ ?_ ?_
    · exact congrArg (k0_pay27 (F := F)) (load_whole _ harg1 x0 _)
    · exact features_of (load_whole _ harg2 x1 _) (load_whole _ harg3 x2 _) (load_whole _ harg4 x3 _) (load_whole _ harg5 x4 _) (load_whole _ harg6 x5 _)
    · rfl
    · exact congrArg (idMin (F := F)) (load_whole _ harg1 x0 _)
    · exact congrArg (fun y => floorDiv256 (idMin (F := F) y)) (load_whole _ harg1 x0 _)
    · exact congrArg (idMax (F := F)) (load_whole _ harg1 x0 _)

  isplitl [H8]
  · iexists _; isplitr; · ipureintro; exact hf8
    iexact H8
  isplitl [H9]
  · iexists _; isplitr; · ipureintro; exact hf9
    iexact H9
  iexists _; isplitr; · ipureintro; exact hf10
  iexact H10

set_option maxHeartbeats 2000000 in
/-- The last point: the block is added, and the results made of the accumulator. -/
theorem run_last (c : Dev nD) (i : grid0.Coords) (arg1 : Memref sig .tc .vmem S1000x1 .i32) (harg1 : arg1.IsWhole) (arg2 : Memref sig .tc .vmem S1000x3 .f32) (harg2 : arg2.IsWhole) (arg3 : Memref sig .tc .vmem S1000x20 .f32) (harg3 : arg3.IsWhole) (arg4 : Memref sig .tc .vmem S1000x60 .f32) (harg4 : arg4.IsWhole) (arg5 : Memref sig .tc .vmem S1000x60 .f32) (harg5 : arg5.IsWhole) (arg6 : Memref sig .tc .vmem S1000x60 .f32) (harg6 : arg6.IsWhole) (arg7 : Memref sig .tc .vmem S2048x20 .f32) (harg7 : arg7.IsWhole) (arg8 : Memref sig .tc .vmem S2048x204 .f32) (harg8 : arg8.IsWhole) (arg9 : Memref sig .tc .vmem S2048x60 .f32) (harg9 : arg9.IsWhole) (arg10 : Memref sig .tc .vmem S2048x60 .f32) (harg10 : arg10.IsWhole) (arg11 : Memref sig .tc .vmem S2048x20 .f32) (harg11 : arg11.IsWhole) (hc0 : ¬(Scalar.cmpi .ne (Scalar.extui (Scalar.cmpi .eq (BitVec.ofNat 32 (i 0).val) 0#32)) 0#32 = 1#1)) (hc1 : k0_cond2 i = 1#1)
    (x0 : Vec F S1000x1 .i32) (x1 : Vec F S1000x3 .f32) (x2 : Vec F S1000x20 .f32) (x3 : Vec F S1000x60 .f32) (x4 : Vec F S1000x60 .f32) (x5 : Vec F S1000x60 .f32) (x6 : Vec F S2048x20 .f32) (A : Vec F S2048x204 .f32) (hx : BlockOK (F := F) x0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare A ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 x4 x5 A) ∗ owns (c : Thread nD τ) arg9 fullShare (muOut (accStep x0 x1 x2 x3 x4 x5 A)) ∗ owns (c : Thread nD τ) arg10 fullShare (mOut (accStep x0 x1 x2 x3 x4 x5 A)) ∗ owns (c : Thread nD τ) arg11 fullShare (rOut (accStep x0 x1 x2 x3 x4 x5 A) x6)) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8 arg9 harg9 arg10 harg10 arg11 harg11) K := by
  simp only [cc0__agg_kernel_eq_skeleton]; unfold cc0__agg_kernel_skel
  simp only [k0_part5_eq_skeleton, k0_part6_eq_skeleton, k0_part7_eq_skeleton, k0_part8_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6;
  have hload : ∀ (v : Vec F S1000x1 .i32) (inb : ∀ a, (![0, 0] : Fin 2 → ℕ) a + S1000x1.size a ≤ S1000x1.size a),
      v = arg1.view.readAt (Elt F) (Rect.unit (s := S1000x1) ![0, 0] S1000x1.size inb).toLoadRect (harg1.unread x0) → v = x0 := by
    intro v inb h; rw [h]; exact load_whole _ _ _ _
  have hchk : ∀ v, v = x0 → k0_chk1 (idMin (F := F) v) (idMax (F := F) v) := fun v h => h ▸ hx.1
  sl_exec (disch := first | sl_exact hc0 | sl_exact hc1 | exact hchk _ (hload _ _ rfl))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine read_loops c i arg1 harg1 arg2 harg2 arg3 harg3 arg4 harg4 arg5 harg5 arg6 harg6 arg7 harg7 arg8 harg8 arg9 harg9 arg10 harg10 arg11 harg11 x0 x1 x2 x3 x4 x5 hx _ _ _ _ _ _ _ _ _ _ _ _ hf7 ?_ ?_ ?_ ?_ ?_ ?_
    · exact congrArg (k0_pay27 (F := F)) (load_whole _ harg1 x0 _)
    · exact features_of (load_whole _ harg2 x1 _) (load_whole _ harg3 x2 _) (load_whole _ harg4 x3 _) (load_whole _ harg5 x4 _) (load_whole _ harg6 x5 _)
    · rfl
    · exact congrArg (idMin (F := F)) (load_whole _ harg1 x0 _)
    · exact congrArg (fun y => floorDiv256 (idMin (F := F) y)) (load_whole _ harg1 x0 _)
    · exact congrArg (idMax (F := F)) (load_whole _ harg1 x0 _)

  isplitl [H8]
  · iexists _; isplitr; swap; · iexact H8
    ipureintro
    refine (View.read_writes_full _ _ _ _ _).trans (congrArg muOut (?_ : _ = accStep x0 x1 x2 x3 x4 x5 A))
    refine (View.readAt_full _ _ _).trans ?_
    refine read_loops c i arg1 harg1 arg2 harg2 arg3 harg3 arg4 harg4 arg5 harg5 arg6 harg6 arg7 harg7 arg8 harg8 arg9 harg9 arg10 harg10 arg11 harg11 x0 x1 x2 x3 x4 x5 hx _ _ _ _ _ _ _ _ _ _ _ _ hf7 ?_ ?_ ?_ ?_ ?_ ?_
    · exact congrArg (k0_pay27 (F := F)) (load_whole _ harg1 x0 _)
    · exact features_of (load_whole _ harg2 x1 _) (load_whole _ harg3 x2 _) (load_whole _ harg4 x3 _) (load_whole _ harg5 x4 _) (load_whole _ harg6 x5 _)
    · rfl
    · exact congrArg (idMin (F := F)) (load_whole _ harg1 x0 _)
    · exact congrArg (fun y => floorDiv256 (idMin (F := F) y)) (load_whole _ harg1 x0 _)
    · exact congrArg (idMax (F := F)) (load_whole _ harg1 x0 _)
  isplitl [H9]
  · iexists _; isplitr; swap; · iexact H9
    ipureintro
    refine (View.read_writes_full _ _ _ _ _).trans (congrArg mOut (?_ : _ = accStep x0 x1 x2 x3 x4 x5 A))
    refine (View.readAt_full _ _ _).trans ?_
    refine read_loops c i arg1 harg1 arg2 harg2 arg3 harg3 arg4 harg4 arg5 harg5 arg6 harg6 arg7 harg7 arg8 harg8 arg9 harg9 arg10 harg10 arg11 harg11 x0 x1 x2 x3 x4 x5 hx _ _ _ _ _ _ _ _ _ _ _ _ hf7 ?_ ?_ ?_ ?_ ?_ ?_
    · exact congrArg (k0_pay27 (F := F)) (load_whole _ harg1 x0 _)
    · exact features_of (load_whole _ harg2 x1 _) (load_whole _ harg3 x2 _) (load_whole _ harg4 x3 _) (load_whole _ harg5 x4 _) (load_whole _ harg6 x5 _)
    · rfl
    · exact congrArg (idMin (F := F)) (load_whole _ harg1 x0 _)
    · exact congrArg (fun y => floorDiv256 (idMin (F := F) y)) (load_whole _ harg1 x0 _)
    · exact congrArg (idMax (F := F)) (load_whole _ harg1 x0 _)
  iexists _; isplitr; swap; · iexact H10
  ipureintro
  refine (View.read_writes_full _ _ _ _ _).trans (congrArg₂ rOut (?_ : _ = accStep x0 x1 x2 x3 x4 x5 A) (load_whole _ harg7 x6 _))
  refine (View.readAt_full _ _ _).trans ?_
  refine read_loops c i arg1 harg1 arg2 harg2 arg3 harg3 arg4 harg4 arg5 harg5 arg6 harg6 arg7 harg7 arg8 harg8 arg9 harg9 arg10 harg10 arg11 harg11 x0 x1 x2 x3 x4 x5 hx _ _ _ _ _ _ _ _ _ _ _ _ hf7 ?_ ?_ ?_ ?_ ?_ ?_
  · exact congrArg (k0_pay27 (F := F)) (load_whole _ harg1 x0 _)
  · exact features_of (load_whole _ harg2 x1 _) (load_whole _ harg3 x2 _) (load_whole _ harg4 x3 _) (load_whole _ harg5 x4 _) (load_whole _ harg6 x5 _)
  · rfl
  · exact congrArg (idMin (F := F)) (load_whole _ harg1 x0 _)
  · exact congrArg (fun y => floorDiv256 (idMin (F := F) y)) (load_whole _ harg1 x0 _)
  · exact congrArg (idMax (F := F)) (load_whole _ harg1 x0 _)

end Cert.KernelIdeal.Body
-- ==== Proof.Launch.lean ====
/-
  The launch: what the buffers hold point by point (the accumulator grows block by block; the results are made of it at
  the last point), the body's obligation at a generic point, and the run of the whole program — over any arithmetic,
  from a memory whose segment numbers are in range block by block (`Ranges`).
-/
module

public import proofs.«01_k».proof.Proof.Run
public import proofs.«01_k».proof.Proof.Gen.KernelIdeal.Points
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every block of segment numbers the launch reads is in range. -/
def Ranges : Prop := ∀ (c : Dev nD) (t : Fin cfg0.N), BlockOK (F := F) (iblk m c 0 t)

/-- What a point adds to the accumulator found at `A`. -/
def pointStep (c : Dev nD) (t : Fin cfg0.N) (A : Vec F S2048x204 .f32) : Vec F S2048x204 .f32 :=
  accStep (iblk m c 0 t) (iblk m c 1 t) (iblk m c 2 t) (iblk m c 3 t) (iblk m c 4 t) (iblk m c 5 t) A

/-- The accumulator after point `n`. -/
def accAt (c : Dev nD) : (n : ℕ) → n < cfg0.N → Vec F S2048x204 .f32
  | 0, h => pointStep m c ⟨0, h⟩ (k0_pay46 (F := F))
  | n + 1, h => pointStep m c ⟨n + 1, h⟩ (accAt c n (Nat.lt_of_succ_lt h))

/-- The accumulator after a point that isn't the first, from the point before. -/
theorem accAt_pred (c : Dev nD) (t : Fin cfg0.N) (h0 : t.val ≠ 0) :
    accAt m c t.val t.isLt = pointStep m c t (accAt m c (t.val - 1) (Nat.lt_of_le_of_lt (Nat.sub_le _ _) t.isLt)) := by
  obtain ⟨n, hn⟩ := t
  cases n with
  | zero => exact absurd rfl h0
  | succ n => rfl

theorem accAt_zero (c : Dev nD) (t : Fin cfg0.N) (h0 : t.val = 0) :
    accAt m c t.val t.isLt = pointStep m c t (k0_pay46 (F := F)) := by
  obtain ⟨n, hn⟩ := t
  subst h0; rfl

/-! ## The buffers of a point -/

abbrev stg0 (t : Fin cfg0.N) : Memref sig .tc .vmem S1000x1 .i32 := win0_0.stage (cfg0.slots t 0)
abbrev stg1 (t : Fin cfg0.N) : Memref sig .tc .vmem S1000x3 .f32 := win0_1.stage (cfg0.slots t 1)
abbrev stg2 (t : Fin cfg0.N) : Memref sig .tc .vmem S1000x20 .f32 := win0_2.stage (cfg0.slots t 2)
abbrev stg3 (t : Fin cfg0.N) : Memref sig .tc .vmem S1000x60 .f32 := win0_3.stage (cfg0.slots t 3)
abbrev stg4 (t : Fin cfg0.N) : Memref sig .tc .vmem S1000x60 .f32 := win0_4.stage (cfg0.slots t 4)
abbrev stg5 (t : Fin cfg0.N) : Memref sig .tc .vmem S1000x60 .f32 := win0_5.stage (cfg0.slots t 5)
abbrev stg6 (t : Fin cfg0.N) : Memref sig .tc .vmem S2048x20 .f32 := win0_6.stage (cfg0.slots t 6)
abbrev stg7 (t : Fin cfg0.N) : Memref sig .tc .vmem S2048x204 .f32 := win0_7.stage (cfg0.slots t 7)
abbrev stg8 (t : Fin cfg0.N) : Memref sig .tc .vmem S2048x60 .f32 := win0_8.stage (cfg0.slots t 8)
abbrev stg9 (t : Fin cfg0.N) : Memref sig .tc .vmem S2048x60 .f32 := win0_9.stage (cfg0.slots t 9)
abbrev stg10 (t : Fin cfg0.N) : Memref sig .tc .vmem S2048x20 .f32 := win0_10.stage (cfg0.slots t 10)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl

/-! ## Which point is which -/

/-- The accumulator is cleared at the first point, -/
theorem first_iff (t : Fin cfg0.N) :
    Scalar.cmpi .ne (Scalar.extui (Scalar.cmpi .eq (BitVec.ofNat 32 (grid0.coords t 0).val) 0#32)) 0#32 = 1#1 ↔ t.val = 0 := by
  have ht : t.val < 100 := Nat.lt_of_lt_of_eq t.isLt N_0
  have e0 : (grid0.coords t 0).val = t.val / 1 % 100 := Pipeline.Grid.coords_val t 0 (by decide) rfl
  rw [e0]
  have h : ∀ n : Fin 100, Scalar.cmpi .ne (Scalar.extui (Scalar.cmpi .eq (BitVec.ofNat 32 (n.val / 1 % 100)) 0#32)) 0#32 = 1#1 ↔ n.val = 0 := by
    decide +kernel
  exact h ⟨t.val, ht⟩

/-- and the results are made at the last. -/
theorem last_iff (t : Fin cfg0.N) : k0_cond2 (grid0.coords t) = 1#1 ↔ t.val = 99 := by
  have h : ∀ t : Fin cfg0.N, k0_cond2 (grid0.coords t) = 1#1 ↔ t.val = 99 := by decide +kernel
  exact h t

/-- Result window 8 is untouched before the last point, and isn't written back there. -/
theorem idle8 : ∀ t : Fin cfg0.N, t.val ≠ 99 → cfg0.idle 8 (grid0.coords t) = true ∧ (cfg0.win 8).flush t = false := by decide +kernel
theorem live8 : ∀ t : Fin cfg0.N, t.val = 99 → cfg0.idle 8 (grid0.coords t) = false := by decide +kernel
/-- Result window 9 is untouched before the last point, and isn't written back there. -/
theorem idle9 : ∀ t : Fin cfg0.N, t.val ≠ 99 → cfg0.idle 9 (grid0.coords t) = true ∧ (cfg0.win 9).flush t = false := by decide +kernel
theorem live9 : ∀ t : Fin cfg0.N, t.val = 99 → cfg0.idle 9 (grid0.coords t) = false := by decide +kernel
/-- Result window 10 is untouched before the last point, and isn't written back there. -/
theorem idle10 : ∀ t : Fin cfg0.N, t.val ≠ 99 → cfg0.idle 10 (grid0.coords t) = true ∧ (cfg0.win 10).flush t = false := by decide +kernel
theorem live10 : ∀ t : Fin cfg0.N, t.val = 99 → cfg0.idle 10 (grid0.coords t) = false := by decide +kernel

/-! ## The proof data -/

/-- The arrays as the region finds them; each input's buffer at its block, the accumulator's at `accAt`, the results' at
    what the accumulator makes (consulted at the last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
    | ⟨8, _⟩ => muOut (accAt m c t.val t.isLt)
    | ⟨9, _⟩ => mOut (accAt m c t.val t.isLt)
    | ⟨10, _⟩ => rOut (accAt m c t.val t.isLt) (iblk m c 6 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = accAt m c t.val t.isLt := by dsimp only [dats]
theorem after8 (c : Dev nD) (t : Fin cfg0.N) : (dats m 0 c).after 8 t = muOut (accAt m c t.val t.isLt) := by dsimp only [dats]
theorem after9 (c : Dev nD) (t : Fin cfg0.N) : (dats m 0 c).after 9 t = mOut (accAt m c t.val t.isLt) := by dsimp only [dats]
theorem after10 (c : Dev nD) (t : Fin cfg0.N) : (dats m 0 c).after 10 t = rOut (accAt m c t.val t.isLt) (iblk m c 6 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Past the first point the accumulator's buffer still holds what the point before left. -/
theorem before7 (c : Dev nD) (t : Fin cfg0.N) (h0 : t.val ≠ 0) (d) :
    (dats m 0 c).before 7 t d = accAt m c (t.val - 1) (Nat.lt_of_le_of_lt (Nat.sub_le _ _) t.isLt) := by
  have hN : t.val < 100 := lt_of_lt_of_eq t.isLt (show cfg0.N = 100 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2400000 in
/-- The body runs at any point: the inputs' buffers hold their blocks, the accumulator what the point before left. -/
theorem sound_body (hm : Ranges m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  rw [show (dats m 0 c).leavesExact 6 t = owns (c : Thread nD τ) (stg6 t) fullShare ((dats m 0 c).after 6 t) from by
    unfold Dat.leavesExact; rw [live6 t], after6]
  rw [show (dats m 0 c).leavesExact 7 t = owns (c : Thread nD τ) (stg7 t) fullShare ((dats m 0 c).after 7 t) from by
    unfold Dat.leavesExact; rw [live7 t], after7]
  by_cases h0 : t.val = 0
  · have h1 : t.val ≠ 99 := by omega
    rw [Dat.leavesExact_idle (dats m 0 c) 8 t (idle8 t h1).1 (idle8 t h1).2]
    rw [Dat.leavesExact_idle (dats m 0 c) 9 t (idle9 t h1).1 (idle9 t h1).2]
    rw [Dat.leavesExact_idle (dats m 0 c) 10 t (idle10 t h1).1 (idle10 t h1).2]
    rw [accAt_zero m c t h0]
    unfold pointStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (iblk m c 6 t) _ _ _ (hm c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  simp only [before7 m c t h0]
  rw [accAt_pred m c t h0]
  unfold pointStep
  by_cases h1 : t.val = 99
  · rw [show (dats m 0 c).leavesExact 8 t = owns (c : Thread nD τ) (stg8 t) fullShare ((dats m 0 c).after 8 t) from by
      unfold Dat.leavesExact; rw [live8 t h1], after8]
    rw [show (dats m 0 c).leavesExact 9 t = owns (c : Thread nD τ) (stg9 t) fullShare ((dats m 0 c).after 9 t) from by
      unfold Dat.leavesExact; rw [live9 t h1], after9]
    rw [show (dats m 0 c).leavesExact 10 t = owns (c : Thread nD τ) (stg10 t) fullShare ((dats m 0 c).after 10 t) from by
      unfold Dat.leavesExact; rw [live10 t h1], after10]
    rw [accAt_pred m c t h0]
    unfold pointStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_last c (grid0.coords t) _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) (hm c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 8 t (idle8 t h1).1 (idle8 t h1).2]
    rw [Dat.leavesExact_idle (dats m 0 c) 9 t (idle9 t h1).1 (idle9 t h1).2]
    rw [Dat.leavesExact_idle (dats m 0 c) 10 t (idle10 t h1).1 (idle10 t h1).2]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_mid c (grid0.coords t) _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) (accAt m c (t.val - 1) (Nat.lt_of_le_of_lt (Nat.sub_le _ _) t.isLt)) _ _ _ (hm c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

/-- The body table's row at a point is the body at that point. -/
theorem row_eq (t : Fin cfg0.N) : defs₀ (F := F) .tc cfg0.body (cfg0.bodyArgs t (cfg0.slots t)) = bodyAt0 t := by
  unfold defs₀; rw [Defs.onTc_tc]

theorem obligation (hm : Ranges m) (c : Dev nD) : BodyObligation (dats (F := F) m 0 c) (defs₀ (F := F)) Variants.none () Set.univ := fun t => by
  rw [bigSep_W0, bigSep_W0, row_eq]
  exact triple_restated (sound_body m hm c t) rfl .rfl fun _ => .rfl

/-! ## The run -/

set_option backward.isDefEq.respectTransparency.types false in
set_option maxHeartbeats 800000 in
/-- The whole program terminates with the pipeline's arrays at what the proof data says, the lines after it run, and
    every counter at zero. -/
theorem run_quiet (hm : Ranges m) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m hm c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run (hm : Ranges m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ hm)

/-- Every argument ends unchanged and every counter at zero. -/
theorem frame_ok (hm : Ranges m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ hm)) ((θ_run defs _ _).mono (fun _ h => h.2) (run_quiet m ρ hm))

end Cert.KernelIdeal.Body
-- ==== Proof.Range.lean ====
/-
  The precondition, block by block: the segment numbers a block of rows reads are words below 2048, so its least and
  its greatest are two of them.
-/
module

public import proofs.«01_k».proof.Proof.Launch
public import proofs.«01_k».proof.Defs
public import Idealize.ShloMosaic.Lib.SortNet.Extract
public import Idealize.ShloMosaic.Lib.Pointwise

@[expose] public section

set_option maxRecDepth 16384

noncomputable section

namespace Cert.KernelIdeal.Body

open Idealize.ShloMosaic Idealize.ShloMosaic.TcCoe Idealize.ShloMosaic.StableHlo Idealize.SL.Sem
open Cert.KernelIdeal.Gen

variable {F : FTy → Type} [FloatOps F]

/-- A word that is one of the 2048 segments. -/
def IsSeg (w : BitVec 32) : Prop := ∃ n : Fin 2048, w = BitVec.ofNat 32 n.val

theorem ofNat_toInt (n : Fin 2048) : (BitVec.ofNat 32 n.val).toInt = n.val := by
  have := n.isLt
  rw [BitVec.toInt_eq_toNat_of_lt (by rw [BitVec.toNat_ofNat]; omega), BitVec.toNat_ofNat]
  omega

theorem minsi_toInt {w : ℕ} (x y : BitVec w) : (IntOp.minsi x y).toInt = min x.toInt y.toInt := by
  unfold IntOp.minsi
  rw [BitVec.slt_eq_decide]
  by_cases h : x.toInt < y.toInt
  · simp only [h, decide_true, if_true]; omega
  · simp only [h, decide_false, Bool.false_eq_true, if_false]; omega

/-- A signed minimum over a set is at most every word met, and is the start or one of them. -/
theorem fold_minsi {ι : Type} [DecidableEq ι] (g : ι → BitVec 32) (s : Finset ι) (z : BitVec 32) :
    (∀ i ∈ s, (s.fold IntOp.minsi z g).toInt ≤ (g i).toInt) ∧ (s.fold IntOp.minsi z g = z ∨ ∃ i ∈ s, s.fold IntOp.minsi z g = g i) := by
  induction s using Finset.induction_on with
  | empty => exact ⟨fun i hi => absurd hi (Finset.notMem_empty i), Or.inl Finset.fold_empty⟩
  | insert a s ha ih =>
    obtain ⟨h2, h3⟩ := ih
    rw [Finset.fold_insert ha]
    have hm := minsi_toInt (g a) (s.fold IntOp.minsi z g)
    refine ⟨fun i hi => ?_, ?_⟩
    · rcases Finset.mem_insert.mp hi with rfl | hi
      · omega
      · have := h2 i hi; omega
    · rcases min_choice (g a).toInt (s.fold IntOp.minsi z g).toInt with h | h
      · exact Or.inr ⟨a, Finset.mem_insert_self a s, BitVec.eq_of_toInt_eq (hm.trans h)⟩
      · have e := BitVec.eq_of_toInt_eq (hm.trans h)
        rcases h3 with h3 | ⟨i, hi, h3⟩
        · exact Or.inl (e.trans h3)
        · exact Or.inr ⟨i, Finset.mem_insert_of_mem hi, e.trans h3⟩

/-- Every row is in the one group a whole reduction has. -/
theorem whole_group (j : S1.Idx) (i : S1x1000x1.Idx) :
    i ∈ Finset.univ.filter fun i => reduces_S1x1000x1_S1.drop i = j := by
  refine Finset.mem_filter.mpr ⟨Finset.mem_univ _, funext fun a => Fin.ext ?_⟩
  have h1 := (reduces_S1x1000x1_S1.drop i a).isLt
  have h2 := (j a).isLt
  have e : S1.size a = 1 := (by decide : ∀ a, S1.size a = 1) a
  omega

/-- The row a group's entry is. -/
abbrev rowOf : S1x1000x1.Idx ≃ S1000x1.Idx :=
  (Shape.reshapeEquiv shapeCasts_S1000x1_S1x1000x1).trans (Shape.reshapeEquiv shapeCasts_S1000x1_S1000x1)

/-- The rows' segment numbers as both reductions take them. -/
abbrev grouped (x0 : Vec F S1000x1 .i32) : IVec S1x1000x1 32 := k0_pay48 (k0_pay27 (F := F) x0)

theorem grouped_at (x0 : Vec F S1000x1 .i32) (r : S1000x1.Idx) : grouped x0 (rowOf.symm r) = x0 r := by
  have h : ∀ i, grouped x0 i = x0 (rowOf i) := fun i => rfl
  rw [h, Equiv.apply_symm_apply]

/-- An entry of the group is a row's. -/
theorem grouped_row (x0 : Vec F S1000x1 .i32) (i : S1x1000x1.Idx) : grouped x0 i = x0 (rowOf i) := rfl

/-- The block's least segment number is one of the segments, and no row's is less. -/
theorem idMin_spec (x0 : Vec F S1000x1 .i32) (h : ∀ r, IsSeg (x0 r)) :
    (∃ r, idMin (F := F) x0 = x0 r) ∧ ∀ r, (idMin (F := F) x0).toInt ≤ (x0 r : BitVec 32).toInt := by
  have hj : ∃ j, idMin (F := F) x0 = multiReductionI .minsi [1, 2] S1 (grouped x0) 2147483647#32 reduces_S1x1000x1_S1 rfl j := by
    unfold idMin k0_pay47 extractAt shapeCast
    exact ⟨_, rfl⟩
  obtain ⟨j, hj⟩ := hj
  generalize idMin (F := F) x0 = v at hj ⊢
  replace hj := hj.trans (multiReductionI_eq_fold _ _ _ _ _ j)
  obtain ⟨s1, s2⟩ := fold_minsi (grouped x0) (Finset.univ.filter fun i => reduces_S1x1000x1_S1.drop i = j) 2147483647#32
  change v = Finset.fold IntOp.minsi _ _ _ at hj
  rw [← hj] at s1 s2
  have all : ∀ r, v.toInt ≤ (x0 r : BitVec 32).toInt := fun r => by
    have := s1 _ (whole_group j (rowOf.symm r))
    rwa [grouped_at] at this
  refine ⟨?_, all⟩
  rcases s2 with e | ⟨i, -, e⟩
  · exfalso
    have r0 : S1000x1.Idx := rowOf fun a => ⟨0, by fin_cases a <;> decide⟩
    obtain ⟨n, hn⟩ := h r0
    have := all r0
    have h3 := n.isLt
    rw [e, hn, ofNat_toInt, show (2147483647#32 : BitVec 32).toInt = 2147483647 from rfl] at this
    omega
  · exact ⟨rowOf i, e⟩

/-- The greatest likewise. -/
theorem idMax_spec (x0 : Vec F S1000x1 .i32) (h : ∀ r, IsSeg (x0 r)) :
    (∃ r, idMax (F := F) x0 = x0 r) ∧ ∀ r, (x0 r : BitVec 32).toInt ≤ (idMax (F := F) x0).toInt := by
  have hj : ∃ j, idMax (F := F) x0 = multiReductionI .maxsi [1, 2] S1 (grouped x0) 2147483648#32 reduces_S1x1000x1_S1 rfl j := by
    unfold idMax k0_pay1 extractAt shapeCast
    exact ⟨_, rfl⟩
  obtain ⟨j, hj⟩ := hj
  generalize idMax (F := F) x0 = v at hj ⊢
  replace hj := hj.trans (multiReductionI_eq_fold _ _ _ _ _ j)
  obtain ⟨-, s1, s2⟩ := SortNet.fold_maxsi_spec (grouped x0) (Finset.univ.filter fun i => reduces_S1x1000x1_S1.drop i = j) 2147483648#32
  change v = Finset.fold IntOp.maxsi _ _ _ at hj
  rw [← hj] at s1 s2
  have all : ∀ r, (x0 r : BitVec 32).toInt ≤ v.toInt := fun r => by
    have := s1 _ (whole_group j (rowOf.symm r))
    rwa [grouped_at] at this
  refine ⟨?_, all⟩
  rcases s2 with e | ⟨i, -, e⟩
  · exfalso
    have r0 : S1000x1.Idx := rowOf fun a => ⟨0, by fin_cases a <;> decide⟩
    obtain ⟨n, hn⟩ := h r0
    have := all r0
    have h3 := n.isLt
    rw [e, hn, ofNat_toInt, show (2147483648#32 : BitVec 32).toInt = -2147483648 from rfl] at this
    omega
  · exact ⟨rowOf i, e⟩

/-- A block all of segments: its least and greatest as numbers, with every row between. -/
theorem block_spec (x0 : Vec F S1000x1 .i32) (h : ∀ r, IsSeg (x0 r)) :
    ∃ a b : Fin 2048, idMin (F := F) x0 = BitVec.ofNat 32 a.val ∧ idMax (F := F) x0 = BitVec.ofNat 32 b.val ∧ a.val ≤ b.val
      ∧ ∀ r, ∀ n : Fin 2048, x0 r = BitVec.ofNat 32 n.val → a.val ≤ n.val ∧ n.val ≤ b.val := by
  obtain ⟨⟨r1, e1⟩, h1⟩ := idMin_spec x0 h
  obtain ⟨⟨r2, e2⟩, h2⟩ := idMax_spec x0 h
  obtain ⟨a, ha⟩ := h r1
  obtain ⟨b, hb⟩ := h r2
  rw [ha] at e1; rw [hb] at e2
  rw [e1] at h1; rw [e2] at h2
  have key : ∀ r, ∀ n : Fin 2048, x0 r = BitVec.ofNat 32 n.val → a.val ≤ n.val ∧ n.val ≤ b.val := fun r n e => by
    have u1 := h1 r
    have u2 := h2 r
    rw [e, ofNat_toInt, ofNat_toInt] at u1 u2
    omega
  exact ⟨a, b, e1, e2, (key r1 a ha).2, key⟩

theorem blockOK_of (x0 : Vec F S1000x1 .i32) (h : ∀ r, IsSeg (x0 r)) : BlockOK (F := F) x0 := by
  obtain ⟨a, b, e1, e2, hab, -⟩ := block_spec x0 h
  unfold BlockOK
  rw [e1, e2]
  exact ⟨chk_ofNat a b hab, trips2_eq a b⟩

variable (m : (ℓ : Loc nD τ sig) → Buf (Elt F) ℓ)

/-- What the launch's reshaped arrays hold: the arguments, reshaped. -/
theorem V_ids (c : Dev nD) : V m c main_v0 = shapeCast (s := S100000) S100000x1 (m ((c : Thread nD τ).loc main_arg1)) shapeCasts_S100000_S100000x1 := by
  unfold V V0
  simp only [hostOps0, List.flatten_cons, List.flatten_nil, List.append_nil, List.cons_append, List.nil_append]
  after_results
  rfl
theorem V_mu (c : Dev nD) : V m c main_v1 = shapeCast (s := S100000x20x3) S100000x60 (m ((c : Thread nD τ).loc main_arg3)) shapeCasts_S100000x20x3_S100000x60 := by
  unfold V V0
  simp only [hostOps0, List.flatten_cons, List.flatten_nil, List.append_nil, List.cons_append, List.nil_append]
  after_results
  rfl
theorem V_mom (c : Dev nD) : V m c main_v2 = shapeCast (s := S100000x20x3) S100000x60 (m ((c : Thread nD τ).loc main_arg4)) shapeCasts_S100000x20x3_S100000x60 := by
  unfold V V0
  simp only [hostOps0, List.flatten_cons, List.flatten_nil, List.append_nil, List.cons_append, List.nil_append]
  after_results
  rfl
theorem V_vel (c : Dev nD) : V m c main_v3 = shapeCast (s := S100000x20x3) S100000x60 (m ((c : Thread nD τ).loc main_arg5)) shapeCasts_S100000x20x3_S100000x60 := by
  unfold V V0
  simp only [hostOps0, List.flatten_cons, List.flatten_nil, List.append_nil, List.cons_append, List.nil_append]
  after_results
  rfl

/-- From an argument all of segments, every block is in range. -/
theorem ranges_of (h : ∀ (c : Dev nD) (i : S100000.Idx), IsSeg (m ((c : Thread nD τ).loc main_arg1) i)) : Ranges m := fun c t => by
  refine blockOK_of _ fun r => ?_
  have e : ∃ i, iblk m c 0 t r = V m c main_v0 i := ⟨_, rfl⟩
  obtain ⟨i, e⟩ := e
  rw [e, V_ids]
  exact h c _

end Cert.KernelIdeal.Body

end
-- ==== Proof.Pre.lean ====
/-
  What the two preconditions say: every row's segment number is one of the 2048, and (the second one) the positions,
  charges and velocities are finite.
-/
module

public import proofs.«01_k».proof.Proof.Range
public import Idealize.ShloMosaic.Lib.ReduceAll

@[expose] public section

noncomputable section

namespace Cert.Pre

open Idealize.ShloMosaic Idealize.SL.Sem Cert.KernelIdeal.Body

instance inRangeFacts : Cert.Pre_in_range.Facts where
  bcast_S_S100000 := by decide

instance finiteFacts : Cert.Pre_finite_in_range.Facts where
  bcast_S_S100000 := by decide
  reducesTo_S100000_S_d0 := by decide
  h_S_ := by decide
  bcast_S_S100000x3 := by decide
  reducesTo_S100000x3_S_d0_1 := by decide
  bcast_S_S100000x20 := by decide
  reducesTo_S100000x20_S_d0_1 := by decide
  bcast_S_S100000x20x3 := by decide
  reducesTo_S100000x20x3_S_d0_1_2 := by decide

variable {F : FTy → Type} [FloatOps F]

/-- A word at least zero and below 2048, both read signed, is a segment number. -/
theorem isSeg_of (w : BitVec 32) (h0 : (0#32).sle w = true) (h1 : w.slt 2048#32 = true) : IsSeg w := by
  have h0' : (0 : ℤ) ≤ w.toInt := by simpa [BitVec.sle] using h0
  have h1' : w.toInt < 2048 := by
    have := h1
    simp only [BitVec.slt, decide_eq_true_eq] at this
    exact this
  have hn : w.toNat < 2048 := by
    rw [BitVec.toInt_eq_toNat_cond] at h0' h1'
    split at h1' <;> omega
  exact ⟨⟨w.toNat, hn⟩, by simp⟩

theorem isSeg_of_bits (w : BitVec 32) (h : IntOp.andi (IntOp.cmpi .sge w 0#32) (IntOp.cmpi .slt w 2048#32) = 1#1) : IsSeg w := by
  obtain ⟨a, b⟩ := IntOp.andi_eq_one.1 h
  refine isSeg_of w ?_ ?_
  · by_contra hc
    simp only [Bool.not_eq_true] at hc
    have : IntOp.cmpi .sge w 0#32 = 0#1 := by simp [IntOp.cmpi, hc]
    rw [this] at a; exact absurd a (by decide)
  · by_contra hc
    simp only [Bool.not_eq_true] at hc
    have : IntOp.cmpi .slt w 2048#32 = 0#1 := by simp [IntOp.cmpi, hc]
    rw [this] at b; exact absurd b (by decide)

/-- In range, every segment number is one of the 2048. -/
theorem seg_of_in_range [Cert.Pre_in_range.Facts] (x0 : FVec F Cert.Pre_in_range.S100000x3 .f32) (x1 : IVec Cert.Pre_in_range.S100000 32)
    (x2 : FVec F Cert.Pre_in_range.S100000x20 .f32) (x3 x4 x5 : FVec F Cert.Pre_in_range.S100000x20x3 .f32) (x6 : FVec F Cert.Pre_in_range.S2048x20 .f32)
    (h : Cert.Pre_in_range.fn x0 x1 x2 x3 x4 x5 x6 = fun _ => 1#1) (i : Cert.Pre_in_range.S100000.Idx) : IsSeg (x1 i) :=
  isSeg_of_bits _ (congrFun h i)

/-- The second precondition, conjunct by conjunct. -/
theorem finite_parts [Cert.Pre_finite_in_range.Facts] (x0 : FVec Ideal Cert.Pre_finite_in_range.S100000x3 .f32) (x1 : IVec Cert.Pre_finite_in_range.S100000 32)
    (x2 : FVec Ideal Cert.Pre_finite_in_range.S100000x20 .f32) (x3 x4 x5 : FVec Ideal Cert.Pre_finite_in_range.S100000x20x3 .f32) (x6 : FVec Ideal Cert.Pre_finite_in_range.S2048x20 .f32)
    (h : Cert.Pre_finite_in_range.fn x0 x1 x2 x3 x4 x5 x6 = fun _ => 1#1) :
    (∀ i, IsSeg (x1 i)) ∧ (∀ i, ∃ r : ℝ, x0 i = (r : EReal)) ∧ (∀ i, ∃ r : ℝ, x2 i = (r : EReal)) ∧ ∀ i, ∃ r : ℝ, x5 i = (r : EReal) := by
  have h0 := congrFun h (fun d => d.elim0)
  obtain ⟨h1, hv⟩ := IntOp.andi_eq_one.1 h0
  obtain ⟨h2, hq⟩ := IntOp.andi_eq_one.1 h1
  obtain ⟨hi, hp⟩ := IntOp.andi_eq_one.1 h2
  have real : ∀ x : EReal, FloatOps.cmpf (F := Ideal) (φ := .f32) .olt (FloatOps.absf (F := Ideal) (φ := .f32) x) (FloatOps.ofBits .f32 0x7F800000#32) = 1#1 → ∃ r : ℝ, x = (r : EReal) := by
    intro x hx
    have htop : Ideal.ofBits .f32 0x7F800000#32 = ⊤ := by simp [Ideal.ofBits, Ideal.ieee]
    replace hx : Ideal.cmp .olt (max x (-x)) (Ideal.ofBits .f32 0x7F800000#32) = 1#1 := hx
    rw [htop] at hx
    induction x using EReal.rec with
    | bot => exact absurd hx (by simp [Ideal.cmp])
    | top => exact absurd hx (by simp [Ideal.cmp])
    | coe r => exact ⟨r, rfl⟩
  refine ⟨fun i => isSeg_of_bits _ (Host.reduce_andi_all _ _ _ _ _ hi i), fun i => real _ (Host.reduce_andi_all _ _ _ _ _ hp i),
    fun i => real _ (Host.reduce_andi_all _ _ _ _ _ hq i), fun i => real _ (Host.reduce_andi_all _ _ _ _ _ hv i)⟩

end Cert.Pre

end
-- ==== Proof.Printed.lean ====
/-
  The kernel as printed is, definition by definition, the program printed for the ideal instance; so what is proved of
  the one at every instance holds of the other.
-/
module

public import proofs.«01_k».proof.Proof.Range
public import proofs.«01_k».proof.Proof.Gen.Kernel

@[expose] public section

set_option maxRecDepth 16384

noncomputable section

namespace Cert.KernelIdeal.Body
open Idealize.ShloMosaic Idealize.ShloMosaic.TcCoe Idealize.SL.Sem Cert.KernelIdeal.Facts₀

set_option maxHeartbeats 4000000
/-- One `@main`. -/
theorem main_same (c : Dev nD) : (Cert.Kernel.main (F := Bits) c) = Cert.KernelIdeal.main (F := Bits) c := by with_unfolding_all rfl
/-- One kernel function. -/
theorem body_same : @Cert.Kernel.cc0__agg_kernel Bits _ _ = @Cert.KernelIdeal.cc0__agg_kernel Bits _ _ := by with_unfolding_all rfl
/-- One body table. -/
theorem defs₀_same : (Cert.Kernel.defs₀ (F := Bits)) = Cert.KernelIdeal.defs₀ (F := Bits) := by
  unfold Cert.Kernel.defs₀ Cert.KernelIdeal.defs₀
  refine congrArg (Defs.onTc (nD := nD) (τ := τ) (sig := sig)) (funext fun l => funext fun x => ?_)
  match l, x with
  | 0, (t, s) =>
    exact congrArg (fun k => k (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10))) body_same
/-- One table of bodies and pipelines. -/
theorem defs_same : (Cert.Kernel.defs (F := Bits)) = Cert.KernelIdeal.defs (F := Bits) := by
  with_unfolding_all exact congrArg (Pipeline.defs (Cert.KernelIdeal.pcfgs (F := Bits))) defs₀_same
/-- One program on every device. -/
theorem onTc_same : (onTc (τ := Cert.Kernel.τ) (Cert.Kernel.main (F := Bits))) = onTc (τ := Cert.KernelIdeal.τ) (Cert.KernelIdeal.main (F := Bits)) := by with_unfolding_all exact congrArg (onTc (τ := Cert.KernelIdeal.τ)) (funext main_same)
set_option maxHeartbeats 4000000 in
/-- The printed kernel is the same program as the one read at the ideal instance, so its run is the same run. -/
theorem frame_kernel (m : (ℓ : Loc Cert.Kernel.nD Cert.Kernel.τ Cert.Kernel.sig) → Buf (Elt Bits) ℓ) (ρ : Dev Cert.Kernel.nD → PrngReg)
    (h : ∀ (c : Dev Cert.Kernel.nD) (i : S100000.Idx), IsSeg (m ((c : Thread Cert.Kernel.nD Cert.Kernel.τ).loc Cert.Kernel.main_arg1) i)) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  have key := frame_ok (F := Bits) m ρ (ranges_of m h)
  rw [onTc_same, defs_same]
  exact key

end Cert.KernelIdeal.Body

end
-- ==== Proof.Reference.lean ====
/-
  The reference program, run: each result is a named function of the arguments' launch contents, and the arguments are
  left alone. The functions follow the program's lines: a segment's centre, a row's offset from its segment's centre,
  the two segment sums, and the ratio made of them.
-/
module

public import proofs.«01_k».proof.ReferenceIdeal
public import proofs.«01_k».proof.Proof.Gen.ReferenceIdeal
public import Idealize.ShloMosaic.Lib.Claim
public import Idealize.ShloMosaic.Lib.StableHlo.RunRead
public import Idealize.ShloMosaic.Lib.Pipeline.Frame
public import Idealize.ShloMosaic.Lib.Quiescent

@[expose] public section

set_option maxRecDepth 16384

noncomputable section

namespace Cert.ReferenceIdeal.Run

open Idealize.ShloMosaic Idealize.ShloMosaic.TcCoe Idealize.ShloMosaic.StableHlo Idealize.SL.Sem
open Cert.ReferenceIdeal Cert.ReferenceIdeal.Facts₀

variable {F : FTy → Type} [FloatOps F]

/-- The operations up to the cross product: the centres, the rows' offsets from them, and the first result. -/
abbrev opsA : List (HloOp τ sig (Elt F)) :=
  [ nullary main_cst (constant S_ .f32 0x00000000#32),
    unary main_cst main_v0 (broadcastInDim S2048x3 ![] bcast_S_S2048x3 : (⟨S_, .f32⟩ : BufTy).Contents (Elt F) → (⟨S2048x3, .f32⟩ : BufTy).Contents (Elt F)),
    unary main_arg1 main_v1 (broadcastInDim S100000x1 ![0] bcast_S100000_S100000x1_0 : (⟨S100000, .i32⟩ : BufTy).Contents (Elt F) → (⟨S100000x1, .i32⟩ : BufTy).Contents (Elt F)),
    ternary main_v0 main_v1 main_arg0 main_v2 ((fun x i u => Host.scatterAdd scatter_S2048x3_S100000x1_S100000x3_1_0_0_1 x i u) : (⟨S2048x3, .f32⟩ : BufTy).Contents (Elt F) → (⟨S100000x1, .i32⟩ : BufTy).Contents (Elt F) → (⟨S100000x3, .f32⟩ : BufTy).Contents (Elt F) → (⟨S2048x3, .f32⟩ : BufTy).Contents (Elt F)),
    nullary main_cst_0 (constant S_ .f32 0x3F800000#32),
    unary main_cst_0 main_v3 (broadcastInDim S100000x1 ![] bcast_S_S100000x1 : (⟨S_, .f32⟩ : BufTy).Contents (Elt F) → (⟨S100000x1, .f32⟩ : BufTy).Contents (Elt F)),
    nullary main_cst_1 (constant S_ .f32 0x00000000#32),
    unary main_cst_1 main_v4 (broadcastInDim S2048x1 ![] bcast_S_S2048x1 : (⟨S_, .f32⟩ : BufTy).Contents (Elt F) → (⟨S2048x1, .f32⟩ : BufTy).Contents (Elt F)),
    unary main_arg1 main_v5 (broadcastInDim S100000x1 ![0] bcast_S100000_S100000x1_0 : (⟨S100000, .i32⟩ : BufTy).Contents (Elt F) → (⟨S100000x1, .i32⟩ : BufTy).Contents (Elt F)),
    ternary main_v4 main_v5 main_v3 main_v6 ((fun x i u => Host.scatterAdd scatter_S2048x1_S100000x1_S100000x1_1_0_0_1 x i u) : (⟨S2048x1, .f32⟩ : BufTy).Contents (Elt F) → (⟨S100000x1, .i32⟩ : BufTy).Contents (Elt F) → (⟨S100000x1, .f32⟩ : BufTy).Contents (Elt F) → (⟨S2048x1, .f32⟩ : BufTy).Contents (Elt F)),
    nullary main_cst_2 (constant S_ .f32 0x3F800000#32),
    unary main_cst_2 main_v7 (broadcastInDim S2048x1 ![] bcast_S_S2048x1 : (⟨S_, .f32⟩ : BufTy).Contents (Elt F) → (⟨S2048x1, .f32⟩ : BufTy).Contents (Elt F)),
    binary main_v6 main_v7 main_v8 (maximumf : (⟨S2048x1, .f32⟩ : BufTy).Contents (Elt F) → (⟨S2048x1, .f32⟩ : BufTy).Contents (Elt F) → (⟨S2048x1, .f32⟩ : BufTy).Contents (Elt F)),
    unary main_v8 main_v9 (broadcastInDim S2048x3 ![0, 1] bcast_S2048x1_S2048x3_0_1 : (⟨S2048x1, .f32⟩ : BufTy).Contents (Elt F) → (⟨S2048x3, .f32⟩ : BufTy).Contents (Elt F)),
    binary main_v2 main_v9 main_v10 (Host.divf : (⟨S2048x3, .f32⟩ : BufTy).Contents (Elt F) → (⟨S2048x3, .f32⟩ : BufTy).Contents (Elt F) → (⟨S2048x3, .f32⟩ : BufTy).Contents (Elt F)),
    nullary main_c (constantI S_ 32 0#32),
    unary main_c main_v11 (broadcastInDim S100000 ![] bcast_S_S100000 : (⟨S_, .i32⟩ : BufTy).Contents (Elt F) → (⟨S100000, .i32⟩ : BufTy).Contents (Elt F)),
    binary main_arg1 main_v11 main_v12 (cmpi .slt : (⟨S100000, .i32⟩ : BufTy).Contents (Elt F) → (⟨S100000, .i32⟩ : BufTy).Contents (Elt F) → (⟨S100000, .i1⟩ : BufTy).Contents (Elt F)),
    nullary main_c_3 (constantI S_ 32 2048#32),
    unary main_c_3 main_v13 (broadcastInDim S100000 ![] bcast_S_S100000 : (⟨S_, .i32⟩ : BufTy).Contents (Elt F) → (⟨S100000, .i32⟩ : BufTy).Contents (Elt F)),
    binary main_arg1 main_v13 main_v14 (addi : (⟨S100000, .i32⟩ : BufTy).Contents (Elt F) → (⟨S100000, .i32⟩ : BufTy).Contents (Elt F) → (⟨S100000, .i32⟩ : BufTy).Contents (Elt F)),
    ternary main_v12 main_v14 main_arg1 main_v15 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v15 main_v16 (broadcastInDim S100000x1 ![0] bcast_S100000_S100000x1_0 : (⟨S100000, .i32⟩ : BufTy).Contents (Elt F) → (⟨S100000x1, .i32⟩ : BufTy).Contents (Elt F)),
    binary main_v10 main_v16 main_v17 ((fun x i => Host.gather gather_S2048x3_S100000x1_S100000x3_1_0_n_n_0_1_13 x i) : (⟨S2048x3, .f32⟩ : BufTy).Contents (Elt F) → (⟨S100000x1, .i32⟩ : BufTy).Contents (Elt F) → (⟨S100000x3, .f32⟩ : BufTy).Contents (Elt F)),
    binary main_arg0 main_v17 main_v18 (subf : (⟨S100000x3, .f32⟩ : BufTy).Contents (Elt F) → (⟨S100000x3, .f32⟩ : BufTy).Contents (Elt F) → (⟨S100000x3, .f32⟩ : BufTy).Contents (Elt F)),
    unary main_arg2 main_v19 (broadcastInDim S100000x20x1 ![0, 1] bcast_S100000x20_S100000x20x1_0_1 : (⟨S100000x20, .f32⟩ : BufTy).Contents (Elt F) → (⟨S100000x20x1, .f32⟩ : BufTy).Contents (Elt F)),
    unary main_v18 main_v20 (broadcastInDim S100000x1x3 ![0, 2] bcast_S100000x3_S100000x1x3_0_2 : (⟨S100000x3, .f32⟩ : BufTy).Contents (Elt F) → (⟨S100000x1x3, .f32⟩ : BufTy).Contents (Elt F)),
    unary main_v19 main_v21 (broadcastInDim S100000x20x3 ![0, 1, 2] bcast_S100000x20x1_S100000x20x3_0_1_2 : (⟨S100000x20x1, .f32⟩ : BufTy).Contents (Elt F) → (⟨S100000x20x3, .f32⟩ : BufTy).Contents (Elt F)),
    unary main_v20 main_v22 (broadcastInDim S100000x20x3 ![0, 1, 2] bcast_S100000x1x3_S100000x20x3_0_1_2 : (⟨S100000x1x3, .f32⟩ : BufTy).Contents (Elt F) → (⟨S100000x20x3, .f32⟩ : BufTy).Contents (Elt F)),
    binary main_v21 main_v22 main_v23 (mulf : (⟨S100000x20x3, .f32⟩ : BufTy).Contents (Elt F) → (⟨S100000x20x3, .f32⟩ : BufTy).Contents (Elt F) → (⟨S100000x20x3, .f32⟩ : BufTy).Contents (Elt F)),
    binary main_arg3 main_v23 main_v24 (addf : (⟨S100000x20x3, .f32⟩ : BufTy).Contents (Elt F) → (⟨S100000x20x3, .f32⟩ : BufTy).Contents (Elt F) → (⟨S100000x20x3, .f32⟩ : BufTy).Contents (Elt F)),
    nullary main_cst_4 (constant S_ .f32 0x00000000#32),
    unary main_cst_4 main_v25 (broadcastInDim S2048x20x3 ![] bcast_S_S2048x20x3 : (⟨S_, .f32⟩ : BufTy).Contents (Elt F) → (⟨S2048x20x3, .f32⟩ : BufTy).Contents (Elt F)),
    unary main_arg1 main_v26 (broadcastInDim S100000x1 ![0] bcast_S100000_S100000x1_0 : (⟨S100000, .i32⟩ : BufTy).Contents (Elt F) → (⟨S100000x1, .i32⟩ : BufTy).Contents (Elt F)),
    ternary main_v25 main_v26 main_v24 main_v27 ((fun x i u => Host.scatterAdd scatter_S2048x20x3_S100000x1_S100000x20x3_12_0_0_1 x i u) : (⟨S2048x20x3, .f32⟩ : BufTy).Contents (Elt F) → (⟨S100000x1, .i32⟩ : BufTy).Contents (Elt F) → (⟨S100000x20x3, .f32⟩ : BufTy).Contents (Elt F) → (⟨S2048x20x3, .f32⟩ : BufTy).Contents (Elt F)),
    unary main_v18 main_v28 (broadcastInDim S100000x1x3 ![0, 2] bcast_S100000x3_S100000x1x3_0_2 : (⟨S100000x3, .f32⟩ : BufTy).Contents (Elt F) → (⟨S100000x1x3, .f32⟩ : BufTy).Contents (Elt F)) ]

/-- The cross product. -/
abbrev opsB : List (HloOp τ sig (Elt F)) :=
  [ unary main_v28 main_call0_v0 (extractStridedSlice S100000x1x1 ![0, 0, 0] · slices_S100000x1x3_S100000x1x1_0_0_0),
    reshape main_call0_v0 main_call0_v1 rfl shapeCasts_S100000x1x1_S100000x1,
    unary main_v28 main_call0_v2 (extractStridedSlice S100000x1x1 ![0, 0, 1] · slices_S100000x1x3_S100000x1x1_0_0_1),
    reshape main_call0_v2 main_call0_v3 rfl shapeCasts_S100000x1x1_S100000x1,
    unary main_v28 main_call0_v4 (extractStridedSlice S100000x1x1 ![0, 0, 2] · slices_S100000x1x3_S100000x1x1_0_0_2),
    reshape main_call0_v4 main_call0_v5 rfl shapeCasts_S100000x1x1_S100000x1,
    unary main_arg5 main_call0_v6 (extractStridedSlice S100000x20x1 ![0, 0, 0] · slices_S100000x20x3_S100000x20x1_0_0_0),
    reshape main_call0_v6 main_call0_v7 rfl shapeCasts_S100000x20x1_S100000x20,
    unary main_arg5 main_call0_v8 (extractStridedSlice S100000x20x1 ![0, 0, 1] · slices_S100000x20x3_S100000x20x1_0_0_1),
    reshape main_call0_v8 main_call0_v9 rfl shapeCasts_S100000x20x1_S100000x20,
    unary main_arg5 main_call0_v10 (extractStridedSlice S100000x20x1 ![0, 0, 2] · slices_S100000x20x3_S100000x20x1_0_0_2),
    reshape main_call0_v10 main_call0_v11 rfl shapeCasts_S100000x20x1_S100000x20,
    unary main_call0_v3 main_call0_v12 (broadcastInDim S100000x20 ![0, 1] bcast_S100000x1_S100000x20_0_1),
    binary main_call0_v12 main_call0_v11 main_call0_v13 mulf,
    unary main_call0_v5 main_call0_v14 (broadcastInDim S100000x20 ![0, 1] bcast_S100000x1_S100000x20_0_1),
    binary main_call0_v14 main_call0_v9 main_call0_v15 mulf,
    binary main_call0_v13 main_call0_v15 main_call0_v16 subf,
    unary main_call0_v5 main_call0_v17 (broadcastInDim S100000x20 ![0, 1] bcast_S100000x1_S100000x20_0_1),
    binary main_call0_v17 main_call0_v7 main_call0_v18 mulf,
    unary main_call0_v1 main_call0_v19 (broadcastInDim S100000x20 ![0, 1] bcast_S100000x1_S100000x20_0_1),
    binary main_call0_v19 main_call0_v11 main_call0_v20 mulf,
    binary main_call0_v18 main_call0_v20 main_call0_v21 subf,
    unary main_call0_v1 main_call0_v22 (broadcastInDim S100000x20 ![0, 1] bcast_S100000x1_S100000x20_0_1),
    binary main_call0_v22 main_call0_v9 main_call0_v23 mulf,
    unary main_call0_v3 main_call0_v24 (broadcastInDim S100000x20 ![0, 1] bcast_S100000x1_S100000x20_0_1),
    binary main_call0_v24 main_call0_v7 main_call0_v25 mulf,
    binary main_call0_v23 main_call0_v25 main_call0_v26 subf,
    unary main_call0_v16 main_call0_v27 (broadcastInDim S1x100000x20 ![1, 2] bcast_S100000x20_S1x100000x20_1_2),
    unary main_call0_v21 main_call0_v28 (broadcastInDim S1x100000x20 ![1, 2] bcast_S100000x20_S1x100000x20_1_2),
    unary main_call0_v26 main_call0_v29 (broadcastInDim S1x100000x20 ![1, 2] bcast_S100000x20_S1x100000x20_1_2),
    nary ![main_call0_v27, main_call0_v28, main_call0_v29] main_call0_v30 (fun u => (concatenate S3x100000x20 0 [⟨S1x100000x20, (u 0 : (⟨S1x100000x20, .f32⟩ : BufTy).Contents (Elt F))⟩, ⟨S1x100000x20, (u 1 : (⟨S1x100000x20, .f32⟩ : BufTy).Contents (Elt F))⟩, ⟨S1x100000x20, (u 2 : (⟨S1x100000x20, .f32⟩ : BufTy).Contents (Elt F))⟩] concatenates_S1x100000x20_S1x100000x20_S1x100000x20_S3x100000x20_d0 : (⟨S3x100000x20, .f32⟩ : BufTy).Contents (Elt F))),
    unary main_call0_v30 main_v29 (transpose S100000x20x3 [1, 2, 0] · transposes_S3x100000x20_S100000x20x3_1_2_0) ]

/-- The rest: the second result and the third. -/
abbrev opsC : List (HloOp τ sig (Elt F)) :=
  [ nullary main_cst_5 (constant S_ .f32 0x3F000000#32),
    unary main_cst_5 main_v30 (broadcastInDim S100000x20x3 ![] bcast_S_S100000x20x3 : (⟨S_, .f32⟩ : BufTy).Contents (Elt F) → (⟨S100000x20x3, .f32⟩ : BufTy).Contents (Elt F)),
    binary main_v30 main_v29 main_v31 (mulf : (⟨S100000x20x3, .f32⟩ : BufTy).Contents (Elt F) → (⟨S100000x20x3, .f32⟩ : BufTy).Contents (Elt F) → (⟨S100000x20x3, .f32⟩ : BufTy).Contents (Elt F)),
    binary main_arg4 main_v31 main_v32 (addf : (⟨S100000x20x3, .f32⟩ : BufTy).Contents (Elt F) → (⟨S100000x20x3, .f32⟩ : BufTy).Contents (Elt F) → (⟨S100000x20x3, .f32⟩ : BufTy).Contents (Elt F)),
    nullary main_cst_6 (constant S_ .f32 0x00000000#32),
    unary main_cst_6 main_v33 (broadcastInDim S2048x20x3 ![] bcast_S_S2048x20x3 : (⟨S_, .f32⟩ : BufTy).Contents (Elt F) → (⟨S2048x20x3, .f32⟩ : BufTy).Contents (Elt F)),
    unary main_arg1 main_v34 (broadcastInDim S100000x1 ![0] bcast_S100000_S100000x1_0 : (⟨S100000, .i32⟩ : BufTy).Contents (Elt F) → (⟨S100000x1, .i32⟩ : BufTy).Contents (Elt F)),
    ternary main_v33 main_v34 main_v32 main_v35 ((fun x i u => Host.scatterAdd scatter_S2048x20x3_S100000x1_S100000x20x3_12_0_0_1 x i u) : (⟨S2048x20x3, .f32⟩ : BufTy).Contents (Elt F) → (⟨S100000x1, .i32⟩ : BufTy).Contents (Elt F) → (⟨S100000x20x3, .f32⟩ : BufTy).Contents (Elt F) → (⟨S2048x20x3, .f32⟩ : BufTy).Contents (Elt F)),
    binary main_v27 main_v35 main_v36 (mulf : (⟨S2048x20x3, .f32⟩ : BufTy).Contents (Elt F) → (⟨S2048x20x3, .f32⟩ : BufTy).Contents (Elt F) → (⟨S2048x20x3, .f32⟩ : BufTy).Contents (Elt F)),
    nullary main_cst_7 (constant S_ .f32 0x00000000#32),
    binary main_v36 main_cst_7 main_v37 ((fun x v => Host.reduceAdd x v reducesTo_S2048x20x3_S2048x20_d2 h_S_) : (⟨S2048x20x3, .f32⟩ : BufTy).Contents (Elt F) → (⟨S_, .f32⟩ : BufTy).Contents (Elt F) → (⟨S2048x20, .f32⟩ : BufTy).Contents (Elt F)),
    nullary main_cst_8 (constant S_ .f32 0x3F800000#32),
    unary main_cst_8 main_v38 (broadcastInDim S2048x20 ![] bcast_S_S2048x20 : (⟨S_, .f32⟩ : BufTy).Contents (Elt F) → (⟨S2048x20, .f32⟩ : BufTy).Contents (Elt F)),
    binary main_arg6 main_v38 main_v39 (maximumf : (⟨S2048x20, .f32⟩ : BufTy).Contents (Elt F) → (⟨S2048x20, .f32⟩ : BufTy).Contents (Elt F) → (⟨S2048x20, .f32⟩ : BufTy).Contents (Elt F)),
    nullary main_cst_9 (constant S_ .f32 0x45C87115#32),
    unary main_cst_9 main_v40 (broadcastInDim S2048x20 ![] bcast_S_S2048x20 : (⟨S_, .f32⟩ : BufTy).Contents (Elt F) → (⟨S2048x20, .f32⟩ : BufTy).Contents (Elt F)),
    binary main_v40 main_v37 main_v41 (mulf : (⟨S2048x20, .f32⟩ : BufTy).Contents (Elt F) → (⟨S2048x20, .f32⟩ : BufTy).Contents (Elt F) → (⟨S2048x20, .f32⟩ : BufTy).Contents (Elt F)),
    binary main_v41 main_v39 main_v42 (Host.divf : (⟨S2048x20, .f32⟩ : BufTy).Contents (Elt F) → (⟨S2048x20, .f32⟩ : BufTy).Contents (Elt F) → (⟨S2048x20, .f32⟩ : BufTy).Contents (Elt F)) ]

theorem opsA_sub : (opsA : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., unary_bufs_sub .., binary_bufs_sub .., binary_bufs_sub .., nullary_bufs_sub .., unary_bufs_sub .., unary_bufs_sub .., ternary_bufs_sub .., unary_bufs_sub ..⟩
theorem opsB_sub : (opsB : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., unary_bufs_sub .., nary_bufs_sub .., unary_bufs_sub ..⟩
theorem opsC_sub : (opsC : List (HloOp τ sig (Elt F))).Forall fun op => op.bufs ⊆ tcRefs τ sig :=
  ⟨nullary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., nullary_bufs_sub .., unary_bufs_sub .., binary_bufs_sub .., binary_bufs_sub ..⟩

/-- The three windows are the whole program. -/
theorem main_eq (c : Dev nD) : main (F := F) c = seq (opsA ++ (opsB ++ opsC)) := rfl
theorem scopedRefs_eq : (Finset.univ.filter fun b : Ref sig .tc => b.isScoped) = ∅ := by decide
theorem scopedSems_eq : (Finset.univ.filter fun sm : SemLoc sig => sm.isScoped .tc) = ∅ := by decide

theorem ops_sub : (opsA ++ (opsB ++ opsC) : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    · exact List.forall_iff_forall_mem.mp opsC_sub op h

/-! ## The functions -/

/-- The segment numbers as a column, the way each segment sum takes them. -/
abbrev column (ids : IVec S100000 32) : IVec S100000x1 32 := broadcastInDim S100000x1 ![0] bcast_S100000_S100000x1_0 ids

/-- A segment's centre: its rows' positions summed, over their count (at least one). -/
def centre (pos : FVec F S100000x3 .f32) (ids : IVec S100000 32) : FVec F S2048x3 .f32 :=
  Host.divf (Host.scatterAdd scatter_S2048x3_S100000x1_S100000x3_1_0_0_1 (broadcastInDim S2048x3 ![] bcast_S_S2048x3 (constant S_ .f32 0x00000000#32)) (column ids) pos)
    (broadcastInDim S2048x3 ![0, 1] bcast_S2048x1_S2048x3_0_1
      (maximumf (Host.scatterAdd scatter_S2048x1_S100000x1_S100000x1_1_0_0_1 (broadcastInDim S2048x1 ![] bcast_S_S2048x1 (constant S_ .f32 0x00000000#32)) (column ids)
          (broadcastInDim S100000x1 ![] bcast_S_S100000x1 (constant S_ .f32 0x3F800000#32)))
        (broadcastInDim S2048x1 ![] bcast_S_S2048x1 (constant S_ .f32 0x3F800000#32))))

/-- The segment numbers as the centres are looked up by: a negative one counts from the end. -/
def wrapped (ids : IVec S100000 32) : IVec S100000 32 :=
  select (cmpi .slt ids (broadcastInDim S100000 ![] bcast_S_S100000 (constantI S_ 32 0#32)))
    (addi ids (broadcastInDim S100000 ![] bcast_S_S100000 (constantI S_ 32 2048#32))) ids

/-- A row's position from its segment's centre. -/
def offset (pos : FVec F S100000x3 .f32) (ids : IVec S100000 32) : FVec F S100000x3 .f32 :=
  subf pos (Host.gather gather_S2048x3_S100000x1_S100000x3_1_0_n_n_0_1_13 (centre pos ids) (column (wrapped ids)))

/-- The first result from the offsets: each segment's sum of `mu + q ⊗ offset`. -/
def muTot (d : FVec F S100000x3 .f32) (ids : IVec S100000 32) (q : FVec F S100000x20 .f32) (mu : FVec F S100000x20x3 .f32) : FVec F S2048x20x3 .f32 :=
  Host.scatterAdd scatter_S2048x20x3_S100000x1_S100000x20x3_12_0_0_1 (broadcastInDim S2048x20x3 ![] bcast_S_S2048x20x3 (constant S_ .f32 0x00000000#32)) (column ids)
    (addf mu (mulf (broadcastInDim S100000x20x3 ![0, 1, 2] bcast_S100000x20x1_S100000x20x3_0_1_2 (broadcastInDim S100000x20x1 ![0, 1] bcast_S100000x20_S100000x20x1_0_1 q))
      (broadcastInDim S100000x20x3 ![0, 1, 2] bcast_S100000x1x3_S100000x20x3_0_1_2 (broadcastInDim S100000x1x3 ![0, 2] bcast_S100000x3_S100000x1x3_0_2 d))))

/-- A component of the offsets, and one of the velocities. -/
abbrev comp (k : ℕ) (d : FVec F S100000x1x3 .f32) (h : S100000x1x3.Slices ![0, 0, k] S100000x1x1) : FVec F S100000x20 .f32 :=
  broadcastInDim S100000x20 ![0, 1] bcast_S100000x1_S100000x20_0_1 (shapeCast S100000x1 (extractStridedSlice S100000x1x1 ![0, 0, k] d h) shapeCasts_S100000x1x1_S100000x1)
abbrev vcomp (k : ℕ) (v : FVec F S100000x20x3 .f32) (h : S100000x20x3.Slices ![0, 0, k] S100000x20x1) : FVec F S100000x20 .f32 :=
  shapeCast S100000x20 (extractStridedSlice S100000x20x1 ![0, 0, k] v h) shapeCasts_S100000x20x1_S100000x20

/-- The cross product of offset and velocity. -/
def crossOf (d : FVec F S100000x1x3 .f32) (v : FVec F S100000x20x3 .f32) : FVec F S100000x20x3 .f32 :=
  transpose S100000x20x3 [1, 2, 0]
    (concatenate S3x100000x20 0
      [⟨S1x100000x20, broadcastInDim S1x100000x20 ![1, 2] bcast_S100000x20_S1x100000x20_1_2
          (subf (mulf (comp 1 d slices_S100000x1x3_S100000x1x1_0_0_1) (vcomp 2 v slices_S100000x20x3_S100000x20x1_0_0_2))
            (mulf (comp 2 d slices_S100000x1x3_S100000x1x1_0_0_2) (vcomp 1 v slices_S100000x20x3_S100000x20x1_0_0_1)))⟩,
       ⟨S1x100000x20, broadcastInDim S1x100000x20 ![1, 2] bcast_S100000x20_S1x100000x20_1_2
          (subf (mulf (comp 2 d slices_S100000x1x3_S100000x1x1_0_0_2) (vcomp 0 v slices_S100000x20x3_S100000x20x1_0_0_0))
            (mulf (comp 0 d slices_S100000x1x3_S100000x1x1_0_0_0) (vcomp 2 v slices_S100000x20x3_S100000x20x1_0_0_2)))⟩,
       ⟨S1x100000x20, broadcastInDim S1x100000x20 ![1, 2] bcast_S100000x20_S1x100000x20_1_2
          (subf (mulf (comp 0 d slices_S100000x1x3_S100000x1x1_0_0_0) (vcomp 1 v slices_S100000x20x3_S100000x20x1_0_0_1))
            (mulf (comp 1 d slices_S100000x1x3_S100000x1x1_0_0_1) (vcomp 0 v slices_S100000x20x3_S100000x20x1_0_0_0)))⟩]
      concatenates_S1x100000x20_S1x100000x20_S1x100000x20_S3x100000x20_d0)
    transposes_S3x100000x20_S100000x20x3_1_2_0

/-- The second result from the cross products: each segment's sum of `m + ½ · cross`. -/
def mTot (x : FVec F S100000x20x3 .f32) (ids : IVec S100000 32) (mm : FVec F S100000x20x3 .f32) : FVec F S2048x20x3 .f32 :=
  Host.scatterAdd scatter_S2048x20x3_S100000x1_S100000x20x3_12_0_0_1 (broadcastInDim S2048x20x3 ![] bcast_S_S2048x20x3 (constant S_ .f32 0x00000000#32)) (column ids)
    (addf mm (mulf (broadcastInDim S100000x20x3 ![] bcast_S_S100000x20x3 (constant S_ .f32 0x3F000000#32)) x))

/-- The third: the two sums' inner product, scaled, over the predicted energy (at least one). -/
def rTot (a b : FVec F S2048x20x3 .f32) (e : FVec F S2048x20 .f32) : FVec F S2048x20 .f32 :=
  Host.divf (mulf (broadcastInDim S2048x20 ![] bcast_S_S2048x20 (constant S_ .f32 0x45C87115#32))
      (Host.reduceAdd (mulf a b) (constant S_ .f32 0x00000000#32) reducesTo_S2048x20x3_S2048x20_d2 h_S_))
    (maximumf e (broadcastInDim S2048x20 ![] bcast_S_S2048x20 (constant S_ .f32 0x3F800000#32)))

/-! ## Window by window -/

variable (V : Valuation τ sig (Elt F))

theorem readA_mu : after opsA V (Proc.devRef .tc main_v27) = muTot (offset (V (Proc.devRef .tc main_arg0)) (V (Proc.devRef .tc main_arg1)))
    (V (Proc.devRef .tc main_arg1)) (V (Proc.devRef .tc main_arg2)) (V (Proc.devRef .tc main_arg3)) := by
  after_results_simp
  rfl

theorem readA_offset : after opsA V (Proc.devRef .tc main_v28) = broadcastInDim S100000x1x3 ![0, 2] bcast_S100000x3_S100000x1x3_0_2
    (offset (V (Proc.devRef .tc main_arg0)) (V (Proc.devRef .tc main_arg1))) := by
  after_results_simp
  rfl

theorem readB : after opsB V (Proc.devRef .tc main_v29) = crossOf (V (Proc.devRef .tc main_v28)) (V (Proc.devRef .tc main_arg5)) := by
  after_results_simp
  rfl

theorem readC_m : after opsC V (Proc.devRef .tc main_v35) = mTot (V (Proc.devRef .tc main_v29)) (V (Proc.devRef .tc main_arg1)) (V (Proc.devRef .tc main_arg4)) := by
  after_results_simp
  rfl

theorem readC_r : after opsC V (Proc.devRef .tc main_v42) = rTot (V (Proc.devRef .tc main_v27))
    (mTot (V (Proc.devRef .tc main_v29)) (V (Proc.devRef .tc main_arg1)) (V (Proc.devRef .tc main_arg4))) (V (Proc.devRef .tc main_arg6)) := by
  after_results_simp
  rfl

/-! ## The run -/

/-- The three windows' folds, one after another. -/
theorem after_three (b : DevRef τ sig) : after (opsA ++ (opsB ++ opsC)) V b = after opsC (after opsB (after opsA V)) b := by
  rw [after_append, after_append]

theorem keep_arg0 : after (opsA ++ (opsB ++ opsC)) V (Proc.devRef .tc main_arg0) = V (Proc.devRef .tc main_arg0) := by
  rw [after_three]; after_reads_simp
theorem keep_arg1 : after (opsA ++ (opsB ++ opsC)) V (Proc.devRef .tc main_arg1) = V (Proc.devRef .tc main_arg1) := by
  rw [after_three]; after_reads_simp
theorem keep_arg2 : after (opsA ++ (opsB ++ opsC)) V (Proc.devRef .tc main_arg2) = V (Proc.devRef .tc main_arg2) := by
  rw [after_three]; after_reads_simp
theorem keep_arg3 : after (opsA ++ (opsB ++ opsC)) V (Proc.devRef .tc main_arg3) = V (Proc.devRef .tc main_arg3) := by
  rw [after_three]; after_reads_simp
theorem keep_arg4 : after (opsA ++ (opsB ++ opsC)) V (Proc.devRef .tc main_arg4) = V (Proc.devRef .tc main_arg4) := by
  rw [after_three]; after_reads_simp
theorem keep_arg5 : after (opsA ++ (opsB ++ opsC)) V (Proc.devRef .tc main_arg5) = V (Proc.devRef .tc main_arg5) := by
  rw [after_three]; after_reads_simp
theorem keep_arg6 : after (opsA ++ (opsB ++ opsC)) V (Proc.devRef .tc main_arg6) = V (Proc.devRef .tc main_arg6) := by
  rw [after_three]; after_reads_simp

theorem ops_fresh : ∀ op ∈ (opsA ++ (opsB ++ opsC) : List (HloOp τ sig (Elt F))), op.fresh = ∅ := fun op h => by
  rcases List.mem_append.mp h with h | h
  · exact (show ∀ op ∈ (opsA : List (HloOp τ sig (Elt F))), op.fresh = ∅ from by intro _ h; (repeat (cases h with | head => rfl | tail _ h => ?_)); exact nomatch h) op h
  rcases List.mem_append.mp h with h | h
  · exact (show ∀ op ∈ (opsB : List (HloOp τ sig (Elt F))), op.fresh = ∅ from by intro _ h; (repeat (cases h with | head => rfl | tail _ h => ?_)); exact nomatch h) op h
  · exact (show ∀ op ∈ (opsC : List (HloOp τ sig (Elt F))), op.fresh = ∅ from by intro _ h; (repeat (cases h with | head => rfl | tail _ h => ?_)); exact nomatch h) op h

/-- The offsets with a unit dimension for the charges. -/
abbrev offset' (pos : FVec F S100000x3 .f32) (ids : IVec S100000 32) : FVec F S100000x1x3 .f32 :=
  broadcastInDim S100000x1x3 ![0, 2] bcast_S100000x3_S100000x1x3_0_2 (offset pos ids)

/-- The first, the second and the third result of the arguments. -/
def out0 (pos : FVec F S100000x3 .f32) (ids : IVec S100000 32) (q : FVec F S100000x20 .f32) (mu : FVec F S100000x20x3 .f32) : FVec F S2048x20x3 .f32 :=
  muTot (offset pos ids) ids q mu
def out1 (pos : FVec F S100000x3 .f32) (ids : IVec S100000 32) (mm v : FVec F S100000x20x3 .f32) : FVec F S2048x20x3 .f32 :=
  mTot (crossOf (offset' pos ids) v) ids mm
def out2 (pos : FVec F S100000x3 .f32) (ids : IVec S100000 32) (q : FVec F S100000x20 .f32) (mu mm v : FVec F S100000x20x3 .f32) (e : FVec F S2048x20 .f32) : FVec F S2048x20 .f32 :=
  rTot (out0 pos ids q mu) (out1 pos ids mm v) e

theorem read_out0 : after (opsA ++ (opsB ++ opsC)) V (Proc.devRef .tc main_v27) = out0 (V (Proc.devRef .tc main_arg0)) (V (Proc.devRef .tc main_arg1))
    (V (Proc.devRef .tc main_arg2)) (V (Proc.devRef .tc main_arg3)) := by
  rw [after_three, show after opsC (after opsB (after opsA V)) (Proc.devRef .tc main_v27) = after opsA V (Proc.devRef .tc main_v27) by after_reads_simp]
  exact readA_mu V

theorem read_cross : after opsB (after opsA V) (Proc.devRef .tc main_v29)
    = crossOf (offset' (V (Proc.devRef .tc main_arg0)) (V (Proc.devRef .tc main_arg1))) (V (Proc.devRef .tc main_arg5)) := by
  rw [readB, readA_offset, show after opsA V (Proc.devRef .tc main_arg5) = V (Proc.devRef .tc main_arg5) by after_reads_simp]

theorem read_out1 : after (opsA ++ (opsB ++ opsC)) V (Proc.devRef .tc main_v35) = out1 (V (Proc.devRef .tc main_arg0)) (V (Proc.devRef .tc main_arg1))
    (V (Proc.devRef .tc main_arg4)) (V (Proc.devRef .tc main_arg5)) := by
  rw [after_three, readC_m, read_cross,
    show after opsB (after opsA V) (Proc.devRef .tc main_arg1) = V (Proc.devRef .tc main_arg1) by after_reads_simp,
    show after opsB (after opsA V) (Proc.devRef .tc main_arg4) = V (Proc.devRef .tc main_arg4) by after_reads_simp]
  rfl

theorem read_out2 : after (opsA ++ (opsB ++ opsC)) V (Proc.devRef .tc main_v42) = out2 (V (Proc.devRef .tc main_arg0)) (V (Proc.devRef .tc main_arg1))
    (V (Proc.devRef .tc main_arg2)) (V (Proc.devRef .tc main_arg3)) (V (Proc.devRef .tc main_arg4)) (V (Proc.devRef .tc main_arg5)) (V (Proc.devRef .tc main_arg6)) := by
  rw [after_three, readC_r, read_cross,
    show after opsB (after opsA V) (Proc.devRef .tc main_v27) = after opsA V (Proc.devRef .tc main_v27) by after_reads_simp, readA_mu,
    show after opsB (after opsA V) (Proc.devRef .tc main_arg1) = V (Proc.devRef .tc main_arg1) by after_reads_simp,
    show after opsB (after opsA V) (Proc.devRef .tc main_arg4) = V (Proc.devRef .tc main_arg4) by after_reads_simp,
    show after opsB (after opsA V) (Proc.devRef .tc main_arg6) = V (Proc.devRef .tc main_arg6) by after_reads_simp]
  rfl

/-- The reference terminates with each result the function above of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v27) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v35) = out1 (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v42) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (run_seq scopedRefs_eq scopedSems_eq defs main (fun _ => opsA ++ (opsB ++ opsC)) main_eq (fun _ => ops_sub) m ρ (fun _ => ops_fresh))
    fun _ h c => ⟨(h c _).trans (read_out0 _), (h c _).trans (read_out1 _), (h c _).trans (read_out2 _),
      (h c _).trans (keep_arg0 _), (h c _).trans (keep_arg1 _), (h c _).trans (keep_arg2 _), (h c _).trans (keep_arg3 _),
      (h c _).trans (keep_arg4 _), (h c _).trans (keep_arg5 _), (h c _).trans (keep_arg6 _)⟩

/-- No semaphore is declared, so every counter is zero. -/
theorem quiet (s : MemSt nD τ sig (Elt F)) : s.sem = fun _ => 0 := sem_eq_zero_of_no_sems (by decide) s

end Cert.ReferenceIdeal.Run

end
-- ==== Proof.Columns.lean ====
/-
  What the body's vector expressions hold at an index: the columns a block's rows contribute, and the three results
  from the accumulator's columns. The 60 columns of a pair (state, component) are numbered three times the state plus
  the component; the products with 0/1 matrices that spread and gather them are sums of a single term.
-/
module

public import proofs.«01_k».proof.Proof.Body
public import Idealize.ShloMosaic.Lib.Pointwise
public import Idealize.ShloMosaic.Lib.IdealHost

@[expose] public section

set_option maxRecDepth 16384

noncomputable section

namespace Cert.KernelIdeal.Value

open Idealize.ShloMosaic Cert.KernelIdeal.Body Cert.KernelIdeal.Gen

/-- The column of state `s` and component `c`. -/
abbrev j3 (s : Fin 20) (c : Fin 3) : Fin 60 := ⟨3 * s.val + c.val, by omega⟩

/-- The word compare that the 0/1 matrices are made of. -/
theorem sel_word (x : Fin 60) (s : Fin 20) (c : Fin 3) :
    IntOp.cmpi .eq (BitVec.ofNat 32 x.val) (IntOp.addi (IntOp.muli 3#32 (BitVec.ofNat 32 s.val)) (BitVec.ofNat 32 c.val)) = if x = j3 s c then 1#1 else 0#1 := by
  revert x s c; decide +kernel

theorem select_ite (p : Prop) [Decidable p] (a b : EReal) : Scalar.select (if p then 1#1 else 0#1) a b = if p then a else b := by
  by_cases h : p <;> simp [h, Scalar.select]

/-- Gathering a component: of the 60 columns the one of `s` and `c`. -/
theorem sum_ext (f : Fin 60 → EReal) (s : Fin 20) (c : Fin 3) :
    (∑ x : Fin 60, Scalar.select (IntOp.cmpi .eq (BitVec.ofNat 32 x.val) (IntOp.addi (IntOp.muli 3#32 (BitVec.ofNat 32 s.val)) (BitVec.ofNat 32 c.val))) (f x) 0) = f (j3 s c) := by
  simp only [sel_word, select_ite]
  simp

/-- Spreading a component: nothing in the columns of the others. -/
theorem sum_proj (f : Fin 20 → EReal) (s : Fin 20) (c c' : Fin 3) :
    (∑ x : Fin 20, Scalar.select (IntOp.cmpi .eq (BitVec.ofNat 32 (j3 s c).val) (IntOp.addi (IntOp.muli 3#32 (BitVec.ofNat 32 x.val)) (BitVec.ofNat 32 c'.val))) (f x) 0)
      = if c = c' then f s else 0 := by
  have e (x : Fin 20) : (j3 s c = j3 x c') ↔ (x = s ∧ c = c') := by
    simp only [j3, Fin.ext_iff]; omega
  refine (Finset.sum_congr rfl fun x _ => ?_ : _ = ∑ x : Fin 20, if x = s ∧ c = c' then f x else 0).trans ?_
  · rw [sel_word (j3 s c) x c', select_ite]
    simp only [e]
  · by_cases h : c = c' <;> simp [h]

theorem sel_word0 (x : Fin 60) (s : Fin 20) :
    IntOp.cmpi .eq (BitVec.ofNat 32 x.val) (IntOp.addi (IntOp.muli 3#32 (BitVec.ofNat 32 s.val)) 0#32) = if x = j3 s 0 then 1#1 else 0#1 := sel_word x s 0
theorem sel_word1 (x : Fin 60) (s : Fin 20) :
    IntOp.cmpi .eq (BitVec.ofNat 32 x.val) (IntOp.addi (IntOp.muli 3#32 (BitVec.ofNat 32 s.val)) 1#32) = if x = j3 s 1 then 1#1 else 0#1 := sel_word x s 1
theorem sel_word2 (x : Fin 60) (s : Fin 20) :
    IntOp.cmpi .eq (BitVec.ofNat 32 x.val) (IntOp.addi (IntOp.muli 3#32 (BitVec.ofNat 32 s.val)) 2#32) = if x = j3 s 2 then 1#1 else 0#1 := sel_word x s 2

theorem sum_ext2 (f : Fin 60 → EReal) (s : Fin 20) :
    (∑ x : Fin 60, Scalar.select (IntOp.cmpi .eq (BitVec.ofNat 32 x.val) (IntOp.addi (IntOp.muli 3#32 (BitVec.ofNat 32 s.val)) 2#32)) (f x) 0) = f (j3 s 2) :=
  sum_ext f s 2

/-- Adding up a state's three columns. -/
theorem sum_three (g : Fin 60 → EReal) (s : Fin 20) :
    (∑ x : Fin 60, g x * ((if x = j3 s 0 then 1 else 0) + (if x = j3 s 1 then 1 else 0) + (if x = j3 s 2 then 1 else 0))) = ∑ c : Fin 3, g (j3 s c) := by
  have e (x : Fin 60) : g x * ((if x = j3 s 0 then 1 else 0) + (if x = j3 s 1 then 1 else 0) + (if x = j3 s 2 then 1 else 0))
      = (if x = j3 s 0 then g x else 0) + (if x = j3 s 1 then g x else 0) + (if x = j3 s 2 then g x else 0) := by
    have h01 : j3 s 0 ≠ j3 s 1 := by simp [j3, Fin.ext_iff]
    have h02 : j3 s 0 ≠ j3 s 2 := by simp [j3, Fin.ext_iff]
    have h12 : j3 s 1 ≠ j3 s 2 := by simp [j3, Fin.ext_iff]
    by_cases h0 : x = j3 s 0
    · rw [if_pos h0, if_neg (h0 ▸ h01), if_neg (h0 ▸ h02), if_pos h0, if_neg (h0 ▸ h01), if_neg (h0 ▸ h02)]; simp
    by_cases h1 : x = j3 s 1
    · rw [if_neg h0, if_pos h1, if_neg (h1 ▸ h12), if_neg h0, if_pos h1, if_neg (h1 ▸ h12)]; simp
    by_cases h2 : x = j3 s 2
    · rw [if_neg h0, if_neg h1, if_pos h2, if_neg h0, if_neg h1, if_pos h2]; simp
    · rw [if_neg h0, if_neg h1, if_neg h2, if_neg h0, if_neg h1, if_neg h2]; simp
  simp only [e, Finset.sum_add_distrib, Finset.sum_ite_eq', Finset.mem_univ, if_true, Fin.sum_univ_three]

/-- One half, as the programs spell it. -/
abbrev half : EReal := Ideal.ofBits .f32 0x3F000000#32

/-- A component of the cross product. -/
def crossR (p v : Fin 3 → EReal) (c : Fin 3) : EReal := p (c + 1) * v (c + 2) - p (c + 2) * v (c + 1)

section Features

variable (x1 : Vec Ideal S1000x3 .f32) (x2 : Vec Ideal S1000x20 .f32) (x3 x4 x5 : Vec Ideal S1000x60 .f32) (k : Fin 1000)

theorem vel0 (s : Fin 20) : k0_pay34 (F := Ideal) x5 (ix2 k s) = x5 (ix2 k (j3 s 0)) := by
  pointwise [k0_pay34, k0_pay30]
  exact sum_ext (fun x => x5 (ix2 k x)) s 0

theorem vel1 (s : Fin 20) : k0_pay35 (F := Ideal) x5 (ix2 k s) = x5 (ix2 k (j3 s 1)) := by
  pointwise [k0_pay35, k0_pay30]
  exact sum_ext (fun x => x5 (ix2 k x)) s 1

theorem crossX_apply (s : Fin 20) : crossX (F := Ideal) x1 x5 (ix2 k s) = crossR (fun c => x1 (ix2 k c)) (fun c => x5 (ix2 k (j3 s c))) 0 := by
  pointwise [crossX, k0_pay37, k0_pay36, k0_pay30, k0_pay32, k0_pay33]
  rw [vel1, sum_ext2 (fun x => x5 (ix2 k x)) s]
  rfl

theorem crossY_apply (s : Fin 20) : crossY (F := Ideal) x1 x5 (ix2 k s) = crossR (fun c => x1 (ix2 k c)) (fun c => x5 (ix2 k (j3 s c))) 1 := by
  pointwise [crossY, k0_pay38, k0_pay36, k0_pay30, k0_pay31, k0_pay33]
  rw [vel0, sum_ext2 (fun x => x5 (ix2 k x)) s]
  rfl

theorem crossZ_apply (s : Fin 20) : crossZ (F := Ideal) x1 x5 (ix2 k s) = crossR (fun c => x1 (ix2 k c)) (fun c => x5 (ix2 k (j3 s c))) 2 := by
  pointwise [crossZ, k0_pay39, k0_pay31, k0_pay32]
  rw [vel0, vel1]
  rfl

/-- The columns from 0: the first feature. -/
theorem feat_mu_col (j : Fin 60) : features (F := Ideal) x1 x2 x3 x4 x5 (ix2 k ⟨j.val, by omega⟩)
    = k0_pay43 x2 (k0_pay33 x1) (k0_pay40 x2 (k0_pay28 x3) (k0_pay31 x1)) (k0_pay41 x2 (k0_pay32 x1)) k0_pay42 1 (ix2 k j) := by
  unfold features
  pointwise [k0_pay45]

theorem feat_mu (s : Fin 20) (c : Fin 3) : features (F := Ideal) x1 x2 x3 x4 x5 (ix2 k ⟨(j3 s c).val, by omega⟩)
    = x3 (ix2 k (j3 s c)) + x2 (ix2 k s) * x1 (ix2 k c) := by
  rw [feat_mu_col]
  pointwise [k0_pay43, k0_pay42, k0_pay41, k0_pay40, k0_pay28, k0_pay31, k0_pay32, k0_pay33]
  have e0 := sum_proj (fun x => x2 (ix2 k x) * x1 (ix2 k 0)) s c 0
  have e1 := sum_proj (fun x => x2 (ix2 k x) * x1 (ix2 k 1)) s c 1
  have e2 := sum_proj (fun x => x2 (ix2 k x) * x1 (ix2 k 2)) s c 2
  refine (congrArg₂ (· + ·) (congrArg₂ (· + ·) (congrArg₂ (· + ·) rfl e0) e1) e2).trans ?_
  fin_cases c <;> simp

/-- The columns from 60: the second. -/
theorem feat_m_col (j : Fin 60) : features (F := Ideal) x1 x2 x3 x4 x5 (ix2 k ⟨60 + j.val, by omega⟩)
    = k0_pay29 x4 (ix2 k j) + half * (k0_pay44 (crossX x1 x5) (crossY x1 x5) (ix2 k j)
      + ∑ x : Fin 20, Scalar.select (IntOp.cmpi CmpIPredicate.eq (BitVec.ofNat 32 ↑j) (IntOp.addi (IntOp.muli (3#32) (BitVec.ofNat 32 ↑x)) 2#32)) (crossZ x1 x5 (ix2 k x)) 0) := by
  unfold features
  pointwise [k0_pay45]

theorem feat_m (s : Fin 20) (c : Fin 3) : features (F := Ideal) x1 x2 x3 x4 x5 (ix2 k ⟨60 + (j3 s c).val, by omega⟩)
    = x4 (ix2 k (j3 s c)) + half * crossR (fun c => x1 (ix2 k c)) (fun c => x5 (ix2 k (j3 s c))) c := by
  rw [feat_m_col]
  pointwise [k0_pay44, k0_pay29]
  have e0 := sum_proj (fun x => crossX (F := Ideal) x1 x5 (ix2 k x)) s c 0
  have e1 := sum_proj (fun x => crossY (F := Ideal) x1 x5 (ix2 k x)) s c 1
  have e2 := sum_proj (fun x => crossZ (F := Ideal) x1 x5 (ix2 k x)) s c 2
  refine (congrArg (x4 (ix2 k (j3 s c)) + half * ·) (congrArg₂ (· + ·) (congrArg₂ (· + ·) e0 e1) e2)).trans ?_
  rw [crossX_apply, crossY_apply, crossZ_apply]
  fin_cases c <;> simp

theorem feat_v (j : Fin 60) : features (F := Ideal) x1 x2 x3 x4 x5 (ix2 k ⟨120 + j.val, by omega⟩) = x5 (ix2 k j) := by
  unfold features
  pointwise [k0_pay45, k0_pay30]
  rw [dif_neg (by omega), dif_neg (by omega), dif_pos (by omega)]
  exact congrArg (fun t => x5 (ix2 k t)) (Fin.ext (by show 120 + j.val - 60 - 60 = j.val; omega))

theorem feat_q (s : Fin 20) : features (F := Ideal) x1 x2 x3 x4 x5 (ix2 k ⟨180 + s.val, by omega⟩) = x2 (ix2 k s) := by
  unfold features
  pointwise [k0_pay45]
  rw [dif_neg (by omega), dif_neg (by omega), dif_neg (by omega), dif_pos (by omega)]
  exact congrArg (fun t => x2 (ix2 k t)) (Fin.ext (by show 180 + s.val - 60 - 60 - 60 = s.val; omega))

theorem feat_p (c : Fin 3) : features (F := Ideal) x1 x2 x3 x4 x5 (ix2 k ⟨200 + c.val, by omega⟩) = x1 (ix2 k c) := by
  unfold features
  pointwise [k0_pay45]
  rw [dif_neg (by omega), dif_neg (by omega), dif_neg (by omega), dif_neg (by omega), dif_pos (by omega)]
  exact congrArg (fun t => x1 (ix2 k t)) (Fin.ext (by show 200 + c.val - 60 - 60 - 60 - 20 = c.val; omega))

theorem feat_1 : features (F := Ideal) x1 x2 x3 x4 x5 (ix2 k 203) = 1 := by
  unfold features
  pointwise [k0_pay45]

end Features

section Results

variable (A : Vec Ideal S2048x204 .f32) (b : Fin 2048)

/-- A segment's count, at least one, inverted; and its mean position. -/
def invCount : EReal := Ideal.div 1 (max (A (ix2 b 203)) 1)
def meanPos (c : Fin 3) : EReal := A (ix2 b ⟨200 + c.val, by omega⟩) * invCount A b

theorem mean0 : k0_pay12 (F := Ideal) A (ix2 b 0) = meanPos A b 0 := by
  pointwise [k0_pay12, k0_pay11, k0_pay10, k0_pay5]
  rfl

theorem mean1 : k0_pay13 (F := Ideal) A (ix2 b 0) = meanPos A b 1 := by
  pointwise [k0_pay13, k0_pay11, k0_pay10, k0_pay5]
  rfl

theorem mean2 : k0_pay14 (F := Ideal) A (ix2 b 0) = meanPos A b 2 := by
  pointwise [k0_pay14, k0_pay11, k0_pay10, k0_pay5]
  rfl

theorem muOut_apply (s : Fin 20) (c : Fin 3) : muOut (F := Ideal) A (ix2 b (j3 s c))
    = A (ix2 b ⟨(j3 s c).val, by omega⟩) - A (ix2 b ⟨180 + s.val, by omega⟩) * meanPos A b c := by
  pointwise [muOut, k0_pay17, k0_pay6, k0_pay5, k0_pay9, k0_pay15, k0_pay16]
  simp only [mean0, mean1, mean2]
  have e0 := sum_proj (fun x => A (ix2 b ⟨180 + x.val, by omega⟩) * meanPos A b 0) s c 0
  have e1 := sum_proj (fun x => A (ix2 b ⟨180 + x.val, by omega⟩) * meanPos A b 1) s c 1
  have e2 := sum_proj (fun x => A (ix2 b ⟨180 + x.val, by omega⟩) * meanPos A b 2) s c 2
  refine (congrArg (A (ix2 b ⟨(j3 s c).val, by omega⟩) - ·) (congrArg₂ (· + ·) (congrArg₂ (· + ·) e0 e1) e2)).trans ?_
  fin_cases c <;> simp

/-- A segment's summed velocities. -/
abbrev sumVel (s : Fin 20) (c : Fin 3) : EReal := A (ix2 b ⟨120 + (j3 s c).val, by omega⟩)

theorem sv0 (s : Fin 20) : k0_pay18 (F := Ideal) (k0_pay8 A) (ix2 b s) = sumVel A b s 0 := by
  pointwise [k0_pay18, k0_pay8, k0_pay5]
  exact sum_ext (fun x => A (ix2 b ⟨120 + x.val, by omega⟩)) s 0

theorem sv1 (s : Fin 20) : k0_pay19 (F := Ideal) (k0_pay8 A) (ix2 b s) = sumVel A b s 1 := by
  pointwise [k0_pay19, k0_pay8, k0_pay5]
  exact sum_ext (fun x => A (ix2 b ⟨120 + x.val, by omega⟩)) s 1

theorem ccz (s : Fin 20) : k0_pay21 (F := Ideal) (k0_pay12 A) (k0_pay13 A) (k0_pay18 (k0_pay8 A)) (k0_pay19 (k0_pay8 A)) (ix2 b s)
    = crossR (meanPos A b) (sumVel A b s) 2 := by
  pointwise [k0_pay21]
  rw [sv0, sv1, mean0, mean1]
  rfl

theorem pay8 (j : Fin 60) : k0_pay8 (F := Ideal) A (ix2 b j) = A (ix2 b ⟨120 + j.val, by omega⟩) := by
  pointwise [k0_pay8, k0_pay5]

theorem mOut_apply (s : Fin 20) (c : Fin 3) : mOut (F := Ideal) A (ix2 b (j3 s c))
    = A (ix2 b ⟨60 + (j3 s c).val, by omega⟩) - half * crossR (meanPos A b) (sumVel A b s) c := by
  pointwise [mOut, k0_pay24, k0_pay7, k0_pay5, k0_pay23, k0_pay22, k0_pay20]
  simp only [sum_ext2, ccz, sv0, sv1, mean0, mean1, mean2, pay8]
  have e0 := sum_proj (fun x => crossR (meanPos A b) (sumVel A b x) 0) s c 0
  have e1 := sum_proj (fun x => crossR (meanPos A b) (sumVel A b x) 1) s c 1
  have e2 := sum_proj (fun x => crossR (meanPos A b) (sumVel A b x) 2) s c 2
  refine (congrArg (A (ix2 b ⟨60 + (j3 s c).val, by omega⟩) - half * ·) (congrArg₂ (· + ·) (congrArg₂ (· + ·) e0 e1) e2)).trans ?_
  fin_cases c <;> simp

theorem rOut_apply (x6 : Vec Ideal S2048x20 .f32) (s : Fin 20) : rOut (F := Ideal) A x6 (ix2 b s)
    = Ideal.div (Ideal.ofBits .f32 0x45C87115#32 * ∑ c : Fin 3, muOut (F := Ideal) A (ix2 b (j3 s c)) * mOut (F := Ideal) A (ix2 b (j3 s c))) (max (x6 (ix2 b s)) 1) := by
  unfold rOut
  generalize muOut (F := Ideal) A = X
  generalize mOut (F := Ideal) A = Y
  pointwise [k0_pay4, k0_pay25, k0_pay26]
  simp only [sel_word0, sel_word1, sel_word2, select_ite]
  rw [sum_three (fun x => X (ix2 b x) * Y (ix2 b x)) s]

end Results

end Cert.KernelIdeal.Value

end
-- ==== Proof.Sums.lean ====
/-
  The accumulator in closed form: a block adds, to each segment, its rows of that segment; after the last block each
  segment's row holds the sum over all of the segment's rows.
-/
module

public import proofs.«01_k».proof.Proof.Columns
public import proofs.«01_k».proof.Proof.Range

@[expose] public section

set_option maxRecDepth 16384

noncomputable section

namespace Cert.KernelIdeal.Value

open Idealize.ShloMosaic Idealize.ShloMosaic.TcCoe Cert.KernelIdeal.Body Cert.KernelIdeal.Gen

/-! ## A block -/

theorem onehot (p : Prop) [Decidable p] (x : EReal) :
    FloatOps.sitofp (F := Ideal) .f32 (BitVec.setWidth 32 (if p then 1#1 else 0#1)) * x = if p then x else 0 := by
  by_cases h : p
  · rw [if_pos h, if_pos h]
    have e : FloatOps.sitofp (F := Ideal) .f32 (BitVec.setWidth 32 1#1) = (1 : EReal) := by
      show ((((BitVec.setWidth 32 1#1).toInt : ℝ) : EReal)) = 1
      norm_num
    exact (congrArg (· * x) e).trans (one_mul x)
  · rw [if_neg h, if_neg h]
    have e : FloatOps.sitofp (F := Ideal) .f32 (BitVec.setWidth 32 0#1) = (0 : EReal) := by
      show ((((BitVec.setWidth 32 0#1).toInt : ℝ) : EReal)) = 0
      norm_num
    exact (congrArg (· * x) e).trans (zero_mul x)

/-- What a block's rows of segment `r` add to column `j`. -/
abbrev blockSum (v1 : IVec S1000x1 32) (f : FVec Ideal S1000x204 .f32) (r : Fin 2048) (j : Fin 204) : EReal :=
  ∑ k : Fin 1000, if v1 (ix2 k 0) = BitVec.ofNat 32 r.val then f (ix2 k j) else 0

theorem cmpi_eq_ite (x y : BitVec 32) : IntOp.cmpi .eq x y = if x = y then 1#1 else 0#1 := by
  by_cases h : x = y
  · rw [if_pos h, h]; simp [IntOp.cmpi]
  · rw [if_neg h]
    show BitVec.ofBool (x == y) = 0#1
    rw [beq_eq_false_iff_ne.mpr h]; rfl

/-- A trip's payload at a row of its window. -/
theorem trip_apply (v1 : IVec S1000x1 32) (f : FVec Ideal S1000x204 .f32) (a b : Fin 2048) (hab : a.val ≤ b.val)
    (k : Fin (k0_t1_loop (BitVec.ofNat 32 a.val) (BitVec.ofNat 32 b.val)).trips) (w : Vec Ideal S256x204 .f32) (i : Fin 256) (j : Fin 204)
    (r : Fin 2048) (hr : r.val = 256 * (a.val / 256 + k.val) + i.val) :
    k0_pay2 (F := Ideal) v1 f (iota .tc S1000x256 32 [1] iota_S1000x256_d1_w32) (BitVec.ofNat 32 a.val) (floorDiv256 (BitVec.ofNat 32 a.val)) (BitVec.ofNat 32 b.val) k w (ix2 i j)
      = w (ix2 i j) + blockSum v1 f r j := by
  have hk := k.isLt.trans_eq (trips1_eq a b hab)
  pointwise [k0_pay2]
  refine congrArg (w (ix2 i j) + ·) (Finset.sum_congr rfl fun x _ => ?_)
  have e : IntOp.addi (BitVec.ofNat 32 i.val) (Scalar.muli (Scf.iv (floorDiv256 (BitVec.ofNat 32 a.val)) 1#32 k.val) 256#32) = BitVec.ofNat 32 r.val := by
    rw [iv_eq a k.val (by omega), row_word ⟨a.val / 256 + k.val, by omega⟩, hr]
    show BitVec.ofNat 32 i.val + BitVec.ofNat 32 (256 * (a.val / 256 + k.val)) = _
    rw [← BitVec.ofNat_add, Nat.add_comm]
  rw [e, cmpi_eq_ite, onehot]

/-- After `n` trips the rows of the windows walked so far have their sums. -/
theorem windows_apply (v1 : IVec S1000x1 32) (f : FVec Ideal S1000x204 .f32) (a b : Fin 2048) (hab : a.val ≤ b.val)
    (hw : k0_chk1 (BitVec.ofNat 32 a.val) (BitVec.ofNat 32 b.val)) (A : Vec Ideal S2048x204 .f32) (r : Fin 2048) (j : Fin 204) :
    ∀ n : ℕ, n ≤ (k0_t1_loop (BitVec.ofNat 32 a.val) (BitVec.ofNat 32 b.val)).trips →
      windows (F := Ideal) v1 f (BitVec.ofNat 32 a.val) (BitVec.ofNat 32 b.val) hw n A (ix2 r j)
        = A (ix2 r j) + if 256 * (a.val / 256) ≤ r.val ∧ r.val < 256 * (a.val / 256 + n) then blockSum v1 f r j else 0
  | 0, _ => by
    rw [if_neg (by omega), add_zero]; rfl
  | n + 1, hn' => by
    have hn : n < (k0_t1_loop (BitVec.ofNat 32 a.val) (BitVec.ofNat 32 b.val)).trips := hn'
    have ih := windows_apply v1 f a b hab hw A r j n (Nat.le_of_succ_le hn')
    have ho := off1_eq a b hab ⟨n, hn⟩
    have h0 : k0_off1 (BitVec.ofNat 32 a.val) (BitVec.ofNat 32 b.val) ⟨n, hn⟩ 0 = 256 * (a.val / 256 + n) := congrFun ho 0
    have h1 : k0_off1 (BitVec.ofNat 32 a.val) (BitVec.ofNat 32 b.val) ⟨n, hn⟩ 1 = 0 := congrFun ho 1
    rw [windows, dif_pos hn]
    unfold VecWindow.put
    by_cases hin : 256 * (a.val / 256 + n) ≤ r.val ∧ r.val < 256 * (a.val / 256 + n) + 256
    · have hin' : ∀ d, k0_off1 (BitVec.ofNat 32 a.val) (BitVec.ofNat 32 b.val) ⟨n, hn⟩ d ≤ ((ix2 r j : S2048x204.Idx) d).val
          ∧ ((ix2 r j : S2048x204.Idx) d).val < k0_off1 (BitVec.ofNat 32 a.val) (BitVec.ofNat 32 b.val) ⟨n, hn⟩ d + S256x204.size d := fun d => by
        match d with
        | 0 => exact ⟨h0.trans_le hin.1, by rw [h0]; exact hin.2⟩
        | 1 => exact ⟨h1.trans_le (Nat.zero_le _), by rw [h1]; exact (j.isLt.trans_eq (Nat.zero_add 204).symm)⟩
      rw [dif_pos hin']
      obtain ⟨i, hi⟩ : ∃ i : Fin 256, r.val = 256 * (a.val / 256 + n) + i.val :=
        ⟨⟨r.val - 256 * (a.val / 256 + n), by omega⟩, (Nat.add_sub_cancel' hin.1).symm⟩
      have hl : (Rect.unitLocal (s := S2048x204) (off := k0_off1 (BitVec.ofNat 32 a.val) (BitVec.ofNat 32 b.val) ⟨n, hn⟩) (size := S256x204.size) (ix2 r j) hin' : S256x204.Idx)
          = (ix2 i j : S256x204.Idx) := funext fun d => Fin.ext (by
        match d with
        | 0 => show r.val - k0_off1 (BitVec.ofNat 32 a.val) (BitVec.ofNat 32 b.val) ⟨n, hn⟩ 0 = _; show _ = i.val; rw [h0]; omega
        | 1 => show j.val - k0_off1 (BitVec.ofNat 32 a.val) (BitVec.ofNat 32 b.val) ⟨n, hn⟩ 1 = _; show _ = j.val; rw [h1]; omega)
      refine (congrArg _ hl).trans ((trip_apply v1 f a b hab ⟨n, hn⟩ _ i j r hi).trans ?_)
      rw [if_pos (by omega)]
      refine congrArg (· + blockSum v1 f r j) ?_
      have he : (Rect.unit (s := S2048x204) (k0_off1 (BitVec.ofNat 32 a.val) (BitVec.ofNat 32 b.val) ⟨n, hn⟩) S256x204.size (k0_off1_inb _ _ hw ⟨n, hn⟩)).emb
          (ix2 i j : S256x204.Idx) = ix2 r j := funext fun d => Fin.ext (by
        match d with
        | 0 =>
          show k0_off1 (BitVec.ofNat 32 a.val) (BitVec.ofNat 32 b.val) ⟨n, hn⟩ 0 + 1 * i.val = r.val
          rw [h0]; omega
        | 1 =>
          show k0_off1 (BitVec.ofNat 32 a.val) (BitVec.ofNat 32 b.val) ⟨n, hn⟩ 1 + 1 * j.val = j.val
          rw [h1]; omega)
      refine (congrArg (windows (F := Ideal) v1 f (BitVec.ofNat 32 a.val) (BitVec.ofNat 32 b.val) hw n A) he).trans (ih.trans ?_)
      rw [if_neg (by omega), add_zero]
    · rw [dif_neg (fun h => hin (by
        have := h 0
        rw [h0] at this
        exact this))]
      rw [ih]
      have : (256 * (a.val / 256) ≤ r.val ∧ r.val < 256 * (a.val / 256 + n)) ↔ (256 * (a.val / 256) ≤ r.val ∧ r.val < 256 * (a.val / 256 + (n + 1))) := by omega
      simp only [this]

theorem windows_words (v1 : IVec S1000x1 32) (f : FVec Ideal S1000x204 .f32) {x y a b : BitVec 32} (hx : x = a) (hy : y = b)
    (hw : k0_chk1 x y) (hw' : k0_chk1 a b) (A : Vec Ideal S2048x204 .f32) :
    windows (F := Ideal) v1 f x y hw (k0_t1_loop x y).trips A = windows (F := Ideal) v1 f a b hw' (k0_t1_loop a b).trips A := by
  subst hx; subst hy; rfl

/-- A block of rows in range adds to every segment its rows of that segment. -/
theorem accStep_apply (x0 : Vec Ideal S1000x1 .i32) (h : ∀ r, IsSeg (x0 r)) (x1 : Vec Ideal S1000x3 .f32) (x2 : Vec Ideal S1000x20 .f32) (x3 x4 x5 : Vec Ideal S1000x60 .f32)
    (A : Vec Ideal S2048x204 .f32) (r : Fin 2048) (j : Fin 204) :
    accStep (F := Ideal) x0 x1 x2 x3 x4 x5 A (ix2 r j) = A (ix2 r j) + blockSum x0 (features x1 x2 x3 x4 x5) r j := by
  obtain ⟨a, b, ha, hb, hab, hr⟩ := block_spec (F := Ideal) x0 h
  have hw : k0_chk1 (idMin (F := Ideal) x0) (idMax (F := Ideal) x0) := by rw [ha, hb]; exact chk_ofNat a b hab
  rw [← accStep_of x0 x1 x2 x3 x4 x5 A hw]
  refine (congrFun (windows_words (k0_pay27 (F := Ideal) x0) (features x1 x2 x3 x4 x5) ha hb hw (chk_ofNat a b hab) A) (ix2 r j)).trans ?_
  rw [windows_apply (k0_pay27 (F := Ideal) x0) (features x1 x2 x3 x4 x5) a b hab (chk_ofNat a b hab) A r j _ le_rfl, trips1_eq a b hab]
  have e27 (k : Fin 1000) : k0_pay27 (F := Ideal) x0 (ix2 k 0) = x0 (ix2 k 0) := by pointwise [k0_pay27]
  refine congrArg (A (ix2 r j) + ·) ?_
  have hs : blockSum (k0_pay27 (F := Ideal) x0) (features x1 x2 x3 x4 x5) r j = blockSum x0 (features x1 x2 x3 x4 x5) r j := by
    unfold blockSum; simp only [e27]
  rw [hs]
  by_cases hin : 256 * (a.val / 256) ≤ r.val ∧ r.val < 256 * (a.val / 256 + (b.val / 256 + 1 - a.val / 256))
  · rw [if_pos hin]
  · rw [if_neg hin]
    refine (Finset.sum_eq_zero fun k _ => if_neg fun hk => hin ?_).symm
    have := hr (ix2 k 0) r hk
    omega

end Cert.KernelIdeal.Value

end
-- ==== Proof.Blocks.lean ====
/-
  The launch's blocks at coordinates: point `t` reads rows `1000 t …` of each row-wise argument; each result is
  written once, whole, after the last point.
-/
module

public import proofs.«01_k».proof.Proof.Columns
public import proofs.«01_k».proof.Proof.Range
public import Idealize.ShloMosaic.Lib.Pipeline.ValueKit.Geometry
public import Idealize.ShloMosaic.Lib.Pipeline.ValueKit.Acc

@[expose] public section

set_option maxRecDepth 16384

noncomputable section

namespace Cert.KernelIdeal.Value

open Idealize.ShloMosaic Idealize.ShloMosaic.TcCoe Cert.KernelIdeal.Body Cert.KernelIdeal.Gen

variable (m : (ℓ : Loc nD τ sig) → Buf (Elt Ideal) ℓ)

theorem points : cfg0.N = 100 := by decide

/-- The row that is `k`th in block `t`. -/
abbrev row (t : Fin cfg0.N) (k : Fin 1000) : Fin 100000 := ⟨1000 * t.val + k.val, by have := t.isLt.trans_eq points; omega⟩

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![0, 0] := by decide +kernel

theorem read_ids (c : Dev nD) (t : Fin cfg0.N) (k : Fin 1000) :
    iblk m c 0 t (ix2 k 0) = m ((c : Thread nD τ).loc main_arg1) (ix1 (row t k)) := by
  have e : iblk m c 0 t (ix2 k 0) = V m c main_v0 (ix2 (row t k) 0) := by
    blk_simp [iblk]
    refine congrArg (V m c main_v0) (funext fun d => Fin.ext ?_)
    match d with
    | 0 => blk_simp [index0]; show t.val * 1000 + k.val = 1000 * t.val + k.val; omega
    | 1 => blk_simp [index0]
  rw [e, V_ids]
  pointwise []

theorem read_pos (c : Dev nD) (t : Fin cfg0.N) (k : Fin 1000) (d : Fin 3) :
    iblk m c 1 t (ix2 k d) = m ((c : Thread nD τ).loc main_arg0) (ix2 (row t k) d) := by
  have e : iblk m c 1 t (ix2 k d) = V m c main_arg0 (ix2 (row t k) d) := by
    blk_simp [iblk]
    refine congrArg (V m c main_arg0) (funext fun a => Fin.ext ?_)
    match a with
    | 0 => blk_simp [index1]; show t.val * 1000 + k.val = 1000 * t.val + k.val; omega
    | 1 => blk_simp [index1]
  rw [e, V_main_arg0]

theorem read_q (c : Dev nD) (t : Fin cfg0.N) (k : Fin 1000) (s : Fin 20) :
    iblk m c 2 t (ix2 k s) = m ((c : Thread nD τ).loc main_arg2) (ix2 (row t k) s) := by
  have e : iblk m c 2 t (ix2 k s) = V m c main_arg2 (ix2 (row t k) s) := by
    blk_simp [iblk]
    refine congrArg (V m c main_arg2) (funext fun a => Fin.ext ?_)
    match a with
    | 0 => blk_simp [index2]; show t.val * 1000 + k.val = 1000 * t.val + k.val; omega
    | 1 => blk_simp [index2]
  rw [e, V_main_arg2]

/-- Three columns to an item: the flat array at item `s`, coordinate `d`. -/
theorem flat_apply (x : Vec Ideal S100000x20x3 .f32) (n : Fin 100000) (s : Fin 20) (d : Fin 3) :
    shapeCast (s := S100000x20x3) S100000x60 x shapeCasts_S100000x20x3_S100000x60 (ix2 n (j3 s d)) = x (ix3 n s d) := by
  pointwise []
  refine congrArg x ?_
  have h1 : (⟨(3 * s.val + d.val) / 3, by omega⟩ : Fin 20) = s := Fin.ext (by show (3 * s.val + d.val) / 3 = s.val; omega)
  have h2 : (⟨(3 * s.val + d.val) % 3, by omega⟩ : Fin 3) = d := Fin.ext (by show (3 * s.val + d.val) % 3 = d.val; omega)
  exact congrArg₂ (fun a b => (ix3 n a b : S100000x20x3.Idx)) h1 h2

theorem read_mu (c : Dev nD) (t : Fin cfg0.N) (k : Fin 1000) (s : Fin 20) (d : Fin 3) :
    iblk m c 3 t (ix2 k (j3 s d)) = m ((c : Thread nD τ).loc main_arg3) (ix3 (row t k) s d) := by
  have e : iblk m c 3 t (ix2 k (j3 s d)) = V m c main_v1 (ix2 (row t k) (j3 s d)) := by
    blk_simp [iblk]
    refine congrArg (V m c main_v1) (funext fun a => Fin.ext ?_)
    match a with
    | 0 => blk_simp [index3]; show t.val * 1000 + k.val = 1000 * t.val + k.val; omega
    | 1 => blk_simp [index3]
  rw [e, V_mu, flat_apply]

theorem read_mom (c : Dev nD) (t : Fin cfg0.N) (k : Fin 1000) (s : Fin 20) (d : Fin 3) :
    iblk m c 4 t (ix2 k (j3 s d)) = m ((c : Thread nD τ).loc main_arg4) (ix3 (row t k) s d) := by
  have e : iblk m c 4 t (ix2 k (j3 s d)) = V m c main_v2 (ix2 (row t k) (j3 s d)) := by
    blk_simp [iblk]
    refine congrArg (V m c main_v2) (funext fun a => Fin.ext ?_)
    match a with
    | 0 => blk_simp [index4]; show t.val * 1000 + k.val = 1000 * t.val + k.val; omega
    | 1 => blk_simp [index4]
  rw [e, V_mom, flat_apply]

theorem read_vel (c : Dev nD) (t : Fin cfg0.N) (k : Fin 1000) (s : Fin 20) (d : Fin 3) :
    iblk m c 5 t (ix2 k (j3 s d)) = m ((c : Thread nD τ).loc main_arg5) (ix3 (row t k) s d) := by
  have e : iblk m c 5 t (ix2 k (j3 s d)) = V m c main_v3 (ix2 (row t k) (j3 s d)) := by
    blk_simp [iblk]
    refine congrArg (V m c main_v3) (funext fun a => Fin.ext ?_)
    match a with
    | 0 => blk_simp [index5]; show t.val * 1000 + k.val = 1000 * t.val + k.val; omega
    | 1 => blk_simp [index5]
  rw [e, V_vel, flat_apply]

theorem read_pred (c : Dev nD) (t : Fin cfg0.N) (b : Fin 2048) (s : Fin 20) :
    iblk m c 6 t (ix2 b s) = m ((c : Thread nD τ).loc main_arg6) (ix2 b s) := by
  have e : iblk m c 6 t (ix2 b s) = V m c main_arg6 (ix2 b s) := by
    blk_simp [iblk]
    refine congrArg (V m c main_arg6) (funext fun a => Fin.ext ?_)
    match a with
    | 0 => blk_simp [index6]
    | 1 => blk_simp [index6]
  rw [e, V_main_arg6]

/-! ## The results -/

theorem last_lt : 99 < cfg0.N := by decide

/-- The accumulator after the last point. -/
abbrev accEnd (c : Dev nD) : Vec Ideal S2048x204 .f32 := accAt m c 99 last_lt

theorem final8 (c : Dev nD) : (dats m 0 c).arrAt 8 cfg0.N = muOut (F := Ideal) (accEnd m c) := by
  refine (dats m 0 c).arrAt_eq_of_after_last 8 ⟨99, last_lt⟩ (by decide +kernel) _ fun j => ?_
  rw [after8]; rfl
theorem final9 (c : Dev nD) : (dats m 0 c).arrAt 9 cfg0.N = mOut (F := Ideal) (accEnd m c) := by
  refine (dats m 0 c).arrAt_eq_of_after_last 9 ⟨99, last_lt⟩ (by decide +kernel) _ fun j => ?_
  rw [after9]; rfl
theorem final10 (c : Dev nD) : (dats m 0 c).arrAt 10 cfg0.N = rOut (F := Ideal) (accEnd m c) (iblk m c 6 ⟨99, last_lt⟩) := by
  refine (dats m 0 c).arrAt_eq_of_after_last 10 ⟨99, last_lt⟩ (by decide +kernel) _ fun j => ?_
  rw [after10]; rfl

end Cert.KernelIdeal.Value

end
-- ==== Proof.Algebra.lean ====
/-
  Sums over segments in the extended reals, and the two identities by which centring after the sum is centring before
  it: what is multiplied must be real, what is only added need not be.
-/
module

public import proofs.«01_k».proof.Proof.Columns

@[expose] public section

noncomputable section

namespace Cert.Segments

open Idealize.ShloMosaic

variable (w : Fin 100000 → BitVec 32) (b : Fin 2048)

/-- The sum of `φ` over the rows of segment `b`. -/
def segSum (φ : Fin 100000 → EReal) (b : Fin 2048) : EReal :=
  ∑ n : Fin 100000, if w n = BitVec.ofNat 32 b.val then φ n else 0

/-- The rows of segment `b`. -/
abbrev rows : Finset (Fin 100000) := Finset.univ.filter fun n => w n = BitVec.ofNat 32 b.val

theorem segSum_rows (φ : Fin 100000 → EReal) : segSum w φ b = ∑ n ∈ rows w b, φ n := (Finset.sum_filter _ _).symm

theorem segSum_congr {f g : Fin 100000 → EReal} (h : ∀ n, w n = BitVec.ofNat 32 b.val → f n = g n) : segSum w f b = segSum w g b := by
  rw [segSum_rows, segSum_rows]
  exact Finset.sum_congr rfl fun n hn => h n (Finset.mem_filter.mp hn).2

theorem segSum_add (f g : Fin 100000 → EReal) : segSum w (fun n => f n + g n) b = segSum w f b + segSum w g b := by
  rw [segSum_rows, segSum_rows, segSum_rows]
  exact Finset.sum_add_distrib

theorem segSum_real (f : Fin 100000 → ℝ) : segSum w (fun n => (f n : EReal)) b = ((∑ n ∈ rows w b, f n : ℝ) : EReal) := by
  rw [segSum_rows]
  induction rows w b using Finset.induction_on with
  | empty => simp
  | insert a s ha ih => rw [Finset.sum_insert ha, Finset.sum_insert ha, ih, EReal.coe_add]

theorem real_first (S : Finset (Fin 100000)) (q p : Fin 100000 → ℝ) (μ : ℝ) :
    (∑ n ∈ S, q n * p n) - (∑ n ∈ S, q n) * μ = ∑ n ∈ S, q n * (p n - μ) := by
  simp only [mul_sub, Finset.sum_sub_distrib, Finset.sum_mul]

theorem real_second (S : Finset (Fin 100000)) (h : ℝ) (p1 p2 v1 v2 : Fin 100000 → ℝ) (μ1 μ2 : ℝ) :
    (∑ n ∈ S, h * (p1 n * v2 n - p2 n * v1 n)) - h * (μ1 * (∑ n ∈ S, v2 n) - μ2 * ∑ n ∈ S, v1 n)
      = ∑ n ∈ S, h * ((p1 n - μ1) * v2 n - (p2 n - μ2) * v1 n) := by
  rw [Finset.mul_sum, Finset.mul_sum, ← Finset.sum_sub_distrib, Finset.mul_sum, ← Finset.sum_sub_distrib]
  exact Finset.sum_congr rfl fun n _ => by ring

/-- Adding reals to a sum of anything and taking a real away. -/
theorem add_coe_sub_coe (x : EReal) (r s : ℝ) : x + (r : EReal) - (s : EReal) = x + ((r - s : ℝ) : EReal) := by
  rw [sub_eq_add_neg, add_assoc, ← EReal.coe_neg, ← EReal.coe_add, sub_eq_add_neg]

/-- The first identity: products with a shifted position, summed. -/
theorem first (M : Fin 100000 → EReal) (q p : Fin 100000 → ℝ) (μ : ℝ) :
    segSum w (fun n => M n + (q n : EReal) * (p n : EReal)) b - segSum w (fun n => (q n : EReal)) b * (μ : EReal)
      = segSum w (fun n => M n + (q n : EReal) * ((p n : EReal) - (μ : EReal))) b := by
  simp only [← EReal.coe_mul, ← EReal.coe_sub]
  rw [segSum_add, segSum_add, segSum_real, segSum_real, segSum_real, ← EReal.coe_mul, add_coe_sub_coe, real_first]

/-- The second: a component of the cross product with a shifted position, summed. -/
theorem second (M : Fin 100000 → EReal) (h : ℝ) (p1 p2 v1 v2 : Fin 100000 → ℝ) (μ1 μ2 : ℝ) :
    segSum w (fun n => M n + (h : EReal) * ((p1 n : EReal) * (v2 n : EReal) - (p2 n : EReal) * (v1 n : EReal))) b
        - (h : EReal) * ((μ1 : EReal) * segSum w (fun n => (v2 n : EReal)) b - (μ2 : EReal) * segSum w (fun n => (v1 n : EReal)) b)
      = segSum w (fun n => M n + (h : EReal) * (((p1 n : EReal) - (μ1 : EReal)) * (v2 n : EReal) - ((p2 n : EReal) - (μ2 : EReal)) * (v1 n : EReal))) b := by
  simp only [← EReal.coe_mul, ← EReal.coe_sub]
  rw [segSum_add, segSum_add, segSum_real, segSum_real, segSum_real, segSum_real]
  simp only [← EReal.coe_mul, ← EReal.coe_sub]
  rw [add_coe_sub_coe, real_second]

/-- A segment's centre: the mean of a coordinate, the count at least one. -/
def mean (P : Fin 100000 → EReal) : EReal := Ideal.div (segSum w P b) (max (segSum w (fun _ => 1) b) 1)

theorem count_ne (x : EReal) : max x 1 ≠ 0 := (lt_of_lt_of_le zero_lt_one (le_max_right x 1)).ne'

theorem div_of_ne (x : EReal) {y : EReal} (h : y ≠ 0) : Ideal.div x y = x * y⁻¹ := by
  unfold Ideal.div
  rw [if_neg h]

/-- Multiplying by the reciprocal of the count is dividing by it. -/
theorem mul_recip (P : Fin 100000 → EReal) : segSum w P b * Ideal.div 1 (max (segSum w (fun _ => 1) b) 1) = mean w b P := by
  unfold mean
  rw [div_of_ne _ (count_ne _), div_of_ne _ (count_ne _), one_mul]

/-- The mean of reals is real. -/
theorem mean_real (p : Fin 100000 → ℝ) : ∃ μ : ℝ, mean w b (fun n => (p n : EReal)) = (μ : EReal) := by
  unfold mean
  rw [div_of_ne _ (count_ne _), segSum_real]
  have e1 : segSum w (fun _ => 1) b = ((∑ _n ∈ rows w b, (1 : ℝ) : ℝ) : EReal) := segSum_real w b fun _ => 1
  have e2 : max (((∑ _n ∈ rows w b, (1 : ℝ) : ℝ) : EReal)) 1 = ((max (∑ _n ∈ rows w b, (1 : ℝ)) 1 : ℝ) : EReal) :=
    (EReal.coe_strictMono.monotone.map_max (a := ∑ _n ∈ rows w b, (1 : ℝ)) (b := 1)).symm
  rw [e1, e2, ← EReal.coe_inv, ← EReal.coe_mul]
  exact ⟨_, rfl⟩

/-- The factor in front of the cross product is real. -/
theorem half_real : ∃ r : ℝ, Ideal.ofBits .f32 0x3F000000#32 = (r : EReal) := by
  unfold Ideal.ofBits Ideal.ieee
  dsimp only
  rw [if_neg (by decide), if_neg (by decide)]
  exact ⟨_, rfl⟩

/-- The first identity about the mean, of values known to be real. -/
theorem first_mean (M q p : Fin 100000 → EReal) (hq : ∀ n, ∃ r : ℝ, q n = (r : EReal)) (hp : ∀ n, ∃ r : ℝ, p n = (r : EReal)) :
    segSum w (fun n => M n + q n * p n) b - segSum w q b * mean w b p = segSum w (fun n => M n + q n * (p n - mean w b p)) b := by
  choose q' hq using hq
  choose p' hp using hp
  obtain rfl : q = fun n => (q' n : EReal) := funext hq
  obtain rfl : p = fun n => (p' n : EReal) := funext hp
  obtain ⟨μ, hμ⟩ := mean_real w b p'
  rw [hμ]
  exact first w b M q' p' μ

/-- The second about the means. -/
theorem second_mean (M : Fin 100000 → EReal) (p v : Fin 100000 → Fin 3 → EReal) (hp : ∀ n c, ∃ r : ℝ, p n c = (r : EReal)) (hv : ∀ n c, ∃ r : ℝ, v n c = (r : EReal)) (c : Fin 3) :
    segSum w (fun n => M n + Cert.KernelIdeal.Value.half * Cert.KernelIdeal.Value.crossR (p n) (v n) c) b
        - Cert.KernelIdeal.Value.half * Cert.KernelIdeal.Value.crossR (fun c => mean w b (fun n => p n c)) (fun c => segSum w (fun n => v n c) b) c
      = segSum w (fun n => M n + Cert.KernelIdeal.Value.half * Cert.KernelIdeal.Value.crossR (fun c => p n c - mean w b (fun n => p n c)) (v n) c) b := by
  choose p' hp using hp
  choose v' hv using hv
  obtain rfl : p = fun n c => (p' n c : EReal) := funext fun n => funext (hp n)
  obtain rfl : v = fun n c => (v' n c : EReal) := funext fun n => funext (hv n)
  choose μ hμ using fun c => mean_real w b (fun n => p' n c)
  obtain ⟨h, hh⟩ := half_real
  unfold Cert.KernelIdeal.Value.half Cert.KernelIdeal.Value.crossR
  simp only [hμ, hh]
  exact second w b M h (fun n => p' n (c + 1)) (fun n => p' n (c + 2)) (fun n => v' n (c + 1)) (fun n => v' n (c + 2)) (μ (c + 1)) (μ (c + 2))

end Cert.Segments

end
-- ==== Proof.Total.lean ====
/-
  The accumulator after the last point: every segment's row holds the sum over all of the segment's rows, column by
  column, of the arguments.
-/
module

public import proofs.«01_k».proof.Proof.Sums
public import proofs.«01_k».proof.Proof.Blocks
public import proofs.«01_k».proof.Proof.Algebra

@[expose] public section

set_option maxRecDepth 16384

noncomputable section

namespace Cert.KernelIdeal.Value

open Idealize.ShloMosaic Idealize.ShloMosaic.TcCoe Cert.KernelIdeal.Body Cert.KernelIdeal.Gen Cert.Segments

/-- A row's share, with the rows numbered by naturals. -/
def share (w : Fin 100000 → BitVec 32) (φ : Fin 100000 → EReal) (b : Fin 2048) (i : ℕ) : EReal :=
  if h : i < 100000 then (if w ⟨i, h⟩ = BitVec.ofNat 32 b.val then φ ⟨i, h⟩ else 0) else 0

theorem sum_share (w : Fin 100000 → BitVec 32) (φ : Fin 100000 → EReal) (b : Fin 2048) :
    ∑ i ∈ Finset.range 100000, share w φ b i = segSum w φ b := by
  rw [Finset.sum_range]
  exact Finset.sum_congr rfl fun n _ => dif_pos n.isLt

variable (m : (ℓ : Loc nD τ sig) → Buf (Elt Ideal) ℓ) (c : Dev nD)

/-- A column of the features, row by row. -/
def IsCol (j : Fin 204) (φ : Fin 100000 → EReal) : Prop := ∀ (t : Fin cfg0.N) (k : Fin 1000),
  features (F := Ideal) (iblk m c 1 t) (iblk m c 2 t) (iblk m c 3 t) (iblk m c 4 t) (iblk m c 5 t) (ix2 k j) = φ (row t k)

variable (hids : ∀ i : S100000.Idx, IsSeg (m ((c : Thread nD τ).loc main_arg1) i))
include hids

theorem point_apply (t : Fin cfg0.N) (A : Vec Ideal S2048x204 .f32) (b : Fin 2048) (j : Fin 204) (φ : Fin 100000 → EReal) (hφ : IsCol m c j φ) :
    pointStep m c t A (ix2 b j) = A (ix2 b j) + ∑ i ∈ Finset.range 1000, share (fun n => m ((c : Thread nD τ).loc main_arg1) (ix1 n)) φ b (1000 * t.val + i) := by
  unfold pointStep
  rw [accStep_apply (iblk m c 0 t) (fun r => by
    obtain ⟨k, z, rfl⟩ : ∃ (k : Fin 1000) (z : Fin 1), r = ix2 k z := ⟨r 0, r 1, (ix2_eta r).symm⟩
    obtain rfl : z = 0 := Subsingleton.elim _ _
    rw [read_ids]; exact hids _), Finset.sum_range]
  refine congrArg (A (ix2 b j) + ·) (Finset.sum_congr rfl fun k _ => ?_)
  rw [read_ids, hφ t k]
  unfold share
  rw [dif_pos (show 1000 * t.val + k.val < 100000 from (row t k).isLt)]

theorem accAt_apply (b : Fin 2048) (j : Fin 204) (φ : Fin 100000 → EReal) (hφ : IsCol m c j φ) : ∀ (n : ℕ) (h : n < cfg0.N),
    accAt m c n h (ix2 b j) = ∑ i ∈ Finset.range (1000 * (n + 1)), share (fun n => m ((c : Thread nD τ).loc main_arg1) (ix1 n)) φ b i
  | 0, h => by
    rw [accAt, point_apply m c hids _ _ b j φ hφ]
    have e : k0_pay46 (F := Ideal) (ix2 b j) = 0 := by pointwise [k0_pay46]
    rw [e, zero_add]
    exact Finset.sum_congr rfl fun i _ => congrArg _ (by show 1000 * 0 + i = i; omega)
  | n + 1, h => by
    rw [accAt, point_apply m c hids _ _ b j φ hφ, accAt_apply b j φ hφ n, show 1000 * (n + 1 + 1) = 1000 * (n + 1) + 1000 by omega, Finset.sum_range_add]

theorem accEnd_apply (b : Fin 2048) (j : Fin 204) (φ : Fin 100000 → EReal) (hφ : IsCol m c j φ) :
    accEnd m c (ix2 b j) = segSum (fun n => m ((c : Thread nD τ).loc main_arg1) (ix1 n)) φ b :=
  (accAt_apply m c hids b j φ hφ 99 last_lt).trans (sum_share _ φ b)

end Cert.KernelIdeal.Value

end
-- ==== Proof.Results.lean ====
/-
  The kernel's run, with its three results as functions of the accumulator after the last point.
-/
module

public import proofs.«01_k».proof.Proof.Blocks

@[expose] public section

set_option maxRecDepth 16384

noncomputable section

namespace Cert.KernelIdeal.Value

open Idealize.ShloMosaic Idealize.ShloMosaic.TcCoe Cert.KernelIdeal.Body Cert.KernelIdeal.Gen

variable (m : (ℓ : Loc nD τ sig) → Buf (Elt Ideal) ℓ) (ρ : Dev nD → PrngReg)

theorem arr_inj : Function.Injective (Pipeline.arrRef spec0) := by decide +kernel

/-- A result array is the reshaped array of its window. -/
theorem tail5 (c : Dev nD) : Pipeline.afterTail₀ cfgs (dats m) 0 (V0 m) [hostOps1] c main_v5
    = shapeCast (s := S2048x60) S2048x20x3 ((dats m 0 c).arrAt 8 cfg0.N) shapeCasts_S2048x60_S2048x20x3 := by
  unfold Pipeline.afterTail₀
  simp only [hostOps1, List.flatten_cons, List.flatten_nil, List.append_nil, List.cons_append, List.nil_append]
  after_results
  exact congrArg (fun x => shapeCast (s := S2048x60) S2048x20x3 x shapeCasts_S2048x60_S2048x20x3) (Pipeline.withArrays_arr spec0 arr_inj c (V0 m c) _ 8)

theorem tail6 (c : Dev nD) : Pipeline.afterTail₀ cfgs (dats m) 0 (V0 m) [hostOps1] c main_v6
    = shapeCast (s := S2048x60) S2048x20x3 ((dats m 0 c).arrAt 9 cfg0.N) shapeCasts_S2048x60_S2048x20x3 := by
  unfold Pipeline.afterTail₀
  simp only [hostOps1, List.flatten_cons, List.flatten_nil, List.append_nil, List.cons_append, List.nil_append]
  after_results
  exact congrArg (fun x => shapeCast (s := S2048x60) S2048x20x3 x shapeCasts_S2048x60_S2048x20x3) (Pipeline.withArrays_arr spec0 arr_inj c (V0 m c) _ 9)

/-- The kernel's three results and its arguments after the run. -/
theorem run_results (hm : Ranges m) : θ_run defs (onTc (τ := τ) (main (F := Ideal))) ⟨m, fun _ => 0, ρ⟩ (fun r => ∀ c : Dev nD,
      r.2.mem ((c.tc : Thread nD τ).loc main_v5) = shapeCast (s := S2048x60) S2048x20x3 (muOut (F := Ideal) (accEnd m c)) shapeCasts_S2048x60_S2048x20x3
      ∧ r.2.mem ((c.tc : Thread nD τ).loc main_v6) = shapeCast (s := S2048x60) S2048x20x3 (mOut (F := Ideal) (accEnd m c)) shapeCasts_S2048x60_S2048x20x3
      ∧ r.2.mem ((c.tc : Thread nD τ).loc main_v4_3) = rOut (F := Ideal) (accEnd m c) (iblk m c 6 ⟨99, last_lt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run m ρ hm) (frame_ok m ρ hm)) fun r h c =>
    ⟨((h.1 c).2 main_v5 (by decide)).trans ((tail5 m c).trans (congrArg (fun x => shapeCast (s := S2048x60) S2048x20x3 x shapeCasts_S2048x60_S2048x20x3) (final8 m c))),
      ((h.1 c).2 main_v6 (by decide)).trans ((tail6 m c).trans (congrArg (fun x => shapeCast (s := S2048x60) S2048x20x3 x shapeCasts_S2048x60_S2048x20x3) (final9 m c))),
      ((h.1 c).1 10).trans (final10 m c), h.2.1 c⟩

end Cert.KernelIdeal.Value

end
-- ==== Proof.RefValue.lean ====
/-
  The reference's results at an index: each is a sum over a segment's rows, with the offsets from the segment's centre.
-/
module

public import proofs.«01_k».proof.Proof.Reference
public import proofs.«01_k».proof.Proof.Algebra
public import proofs.«01_k».proof.Proof.Range
public import Idealize.ShloMosaic.Lib.Routing.Ops
public import Idealize.ShloMosaic.Lib.Routing.OpsPair

@[expose] public section

set_option maxRecDepth 16384

noncomputable section

namespace Cert.ReferenceIdeal.Value

open Idealize.ShloMosaic Idealize.ShloMosaic.TcCoe Cert.ReferenceIdeal.Run Idealize.ShloMosaic.Routing Cert.Segments
variable [Cert.ReferenceIdeal.Facts₀]
open Cert.ReferenceIdeal.Facts₀

/-! ## Where an update lands -/

/-- A word read signed is a segment's number exactly when it is the segment's word. -/
theorem toInt_eq (x : BitVec 32) (b : Fin 2048) : x.toInt = (b.val : Int) ↔ x = BitVec.ofNat 32 b.val := by
  have e : (BitVec.ofNat 32 b.val).toInt = b.val := Cert.KernelIdeal.Body.ofNat_toInt b
  rw [← e, BitVec.toInt_inj]

theorem lands3 (idx : IVec S100000x1 32) (k : S100000x20x3.Idx) (b : Fin 2048) (s : Fin 20) (c : Fin 3) :
    scatter_S2048x20x3_S100000x1_S100000x20x3_12_0_0_1.resultIdx? k idx = some (ix3 b s c)
      ↔ idx (ix2 (k 0) 0) = BitVec.ofNat 32 b.val ∧ k 1 = s ∧ k 2 = c := by
  rw [resultIdx?_eq_some]
  have h0 : scatter_S2048x20x3_S100000x1_S100000x20x3_12_0_0_1.start k idx 0 = (idx (ix2 (k 0) 0)).toInt := by
    unfold ScatterDims.start
    refine (dif_pos (show (0 : Fin 3) ∈ scatter_S2048x20x3_S100000x1_S100000x20x3_12_0_0_1.scatterDimsToOperandDims from List.mem_singleton.mpr rfl)).trans ?_
    refine congrArg (fun i => (idx i).toInt) (funext fun a => Fin.ext ?_)
    match a with
    | 0 => rfl
    | 1 => rfl
  have h1 : scatter_S2048x20x3_S100000x1_S100000x20x3_12_0_0_1.start k idx 1 = 0 := rfl
  have h2 : scatter_S2048x20x3_S100000x1_S100000x20x3_12_0_0_1.start k idx 2 = 0 := rfl
  have w0 : scatter_S2048x20x3_S100000x1_S100000x20x3_12_0_0_1.window k 0 = 0 := rfl
  have w1 : scatter_S2048x20x3_S100000x1_S100000x20x3_12_0_0_1.window k 1 = (k 1).val := rfl
  have w2 : scatter_S2048x20x3_S100000x1_S100000x20x3_12_0_0_1.window k 2 = (k 2).val := rfl
  constructor
  · intro h
    have a0 := h 0
    have a1 := h 1
    have a2 := h 2
    rw [h0, w0] at a0
    rw [h1, w1] at a1
    rw [h2, w2] at a2
    refine ⟨(toInt_eq _ b).mp (by simpa using a0), Fin.ext ?_, Fin.ext ?_⟩
    · have : (0 : Int) + ((k 1).val : Int) = (s.val : Int) := a1
      omega
    · have : (0 : Int) + ((k 2).val : Int) = (c.val : Int) := a2
      omega
  · rintro ⟨e0, e1, e2⟩ a
    match a with
    | 0 => rw [h0, w0, (toInt_eq _ b).mpr e0]; exact add_zero _
    | 1 => rw [h1, w1, e1]; exact zero_add _
    | 2 => rw [h2, w2, e2]; exact zero_add _

theorem lands2 (idx : IVec S100000x1 32) (k : S100000x3.Idx) (b : Fin 2048) (c : Fin 3) :
    scatter_S2048x3_S100000x1_S100000x3_1_0_0_1.resultIdx? k idx = some (ix2 b c)
      ↔ idx (ix2 (k 0) 0) = BitVec.ofNat 32 b.val ∧ k 1 = c := by
  rw [resultIdx?_eq_some]
  have h0 : scatter_S2048x3_S100000x1_S100000x3_1_0_0_1.start k idx 0 = (idx (ix2 (k 0) 0)).toInt := by
    unfold ScatterDims.start
    refine (dif_pos (show (0 : Fin 2) ∈ scatter_S2048x3_S100000x1_S100000x3_1_0_0_1.scatterDimsToOperandDims from List.mem_singleton.mpr rfl)).trans ?_
    refine congrArg (fun i => (idx i).toInt) (funext fun a => Fin.ext ?_)
    match a with
    | 0 => rfl
    | 1 => rfl
  have h1 : scatter_S2048x3_S100000x1_S100000x3_1_0_0_1.start k idx 1 = 0 := rfl
  have w0 : scatter_S2048x3_S100000x1_S100000x3_1_0_0_1.window k 0 = 0 := rfl
  have w1 : scatter_S2048x3_S100000x1_S100000x3_1_0_0_1.window k 1 = (k 1).val := rfl
  constructor
  · intro h
    have a0 := h 0
    have a1 := h 1
    rw [h0, w0] at a0
    rw [h1, w1] at a1
    refine ⟨(toInt_eq _ b).mp (by simpa using a0), Fin.ext ?_⟩
    have : (0 : Int) + ((k 1).val : Int) = (c.val : Int) := a1
    omega
  · rintro ⟨e0, e1⟩ a
    match a with
    | 0 => rw [h0, w0, (toInt_eq _ b).mpr e0]; exact add_zero _
    | 1 => rw [h1, w1, e1]; exact zero_add _

theorem lands1 (idx : IVec S100000x1 32) (k : S100000x1.Idx) (b : Fin 2048) (c : Fin 1) :
    scatter_S2048x1_S100000x1_S100000x1_1_0_0_1.resultIdx? k idx = some (ix2 b c)
      ↔ idx (ix2 (k 0) 0) = BitVec.ofNat 32 b.val ∧ k 1 = c := by
  rw [resultIdx?_eq_some]
  have h0 : scatter_S2048x1_S100000x1_S100000x1_1_0_0_1.start k idx 0 = (idx (ix2 (k 0) 0)).toInt := by
    unfold ScatterDims.start
    refine (dif_pos (show (0 : Fin 2) ∈ scatter_S2048x1_S100000x1_S100000x1_1_0_0_1.scatterDimsToOperandDims from List.mem_singleton.mpr rfl)).trans ?_
    refine congrArg (fun i => (idx i).toInt) (funext fun a => Fin.ext ?_)
    match a with
    | 0 => rfl
    | 1 => rfl
  have h1 : scatter_S2048x1_S100000x1_S100000x1_1_0_0_1.start k idx 1 = 0 := rfl
  have w0 : scatter_S2048x1_S100000x1_S100000x1_1_0_0_1.window k 0 = 0 := rfl
  have w1 : scatter_S2048x1_S100000x1_S100000x1_1_0_0_1.window k 1 = (k 1).val := rfl
  constructor
  · intro h
    have a0 := h 0
    have a1 := h 1
    rw [h0, w0] at a0
    rw [h1, w1] at a1
    refine ⟨(toInt_eq _ b).mp (by simpa using a0), Fin.ext ?_⟩
    have : (0 : Int) + ((k 1).val : Int) = (c.val : Int) := a1
    omega
  · rintro ⟨e0, e1⟩ a
    match a with
    | 0 => rw [h0, w0, (toInt_eq _ b).mpr e0]; exact add_zero _
    | 1 => rw [h1, w1, e1]; exact zero_add _

/-! ## The sums -/

theorem scatter3 (x : FVec Ideal S2048x20x3 .f32) (idx : IVec S100000x1 32) (u : FVec Ideal S100000x20x3 .f32) (b : Fin 2048) (s : Fin 20) (c : Fin 3) :
    Host.scatterAdd scatter_S2048x20x3_S100000x1_S100000x20x3_12_0_0_1 x idx u (ix3 b s c)
      = x (ix3 b s c) + segSum (fun n => idx (ix2 n 0)) (fun n => u (ix3 n s c)) b := by
  refine congrArg (x (ix3 b s c) + ·) ?_
  rw [segSum_rows]
  refine Finset.sum_nbij' (fun k => k 0) (fun n => ix3 n s c) (fun k hk => ?_) (fun n hn => ?_) (fun k hk => ?_) (fun n _ => rfl) (fun k hk => ?_)
  · exact Finset.mem_filter.mpr ⟨Finset.mem_univ _, ((lands3 idx k b s c).mp (Finset.mem_filter.mp hk).2).1⟩
  · exact Finset.mem_filter.mpr ⟨Finset.mem_univ _, (lands3 idx _ b s c).mpr ⟨(Finset.mem_filter.mp hn).2, rfl, rfl⟩⟩
  · obtain ⟨-, e1, e2⟩ := (lands3 idx k b s c).mp (Finset.mem_filter.mp hk).2
    show ix3 (k 0) s c = k
    rw [← e1, ← e2]; exact ix3_eta k
  · obtain ⟨-, e1, e2⟩ := (lands3 idx k b s c).mp (Finset.mem_filter.mp hk).2
    show u k = u (ix3 (k 0) s c)
    rw [← e1, ← e2]; exact congrArg u (ix3_eta k).symm

theorem scatter2 (x : FVec Ideal S2048x3 .f32) (idx : IVec S100000x1 32) (u : FVec Ideal S100000x3 .f32) (b : Fin 2048) (c : Fin 3) :
    Host.scatterAdd scatter_S2048x3_S100000x1_S100000x3_1_0_0_1 x idx u (ix2 b c)
      = x (ix2 b c) + segSum (fun n => idx (ix2 n 0)) (fun n => u (ix2 n c)) b := by
  refine congrArg (x (ix2 b c) + ·) ?_
  rw [segSum_rows]
  refine Finset.sum_nbij' (fun k => k 0) (fun n => ix2 n c) (fun k hk => ?_) (fun n hn => ?_) (fun k hk => ?_) (fun n _ => rfl) (fun k hk => ?_)
  · exact Finset.mem_filter.mpr ⟨Finset.mem_univ _, ((lands2 idx k b c).mp (Finset.mem_filter.mp hk).2).1⟩
  · exact Finset.mem_filter.mpr ⟨Finset.mem_univ _, (lands2 idx _ b c).mpr ⟨(Finset.mem_filter.mp hn).2, rfl⟩⟩
  · obtain ⟨-, e1⟩ := (lands2 idx k b c).mp (Finset.mem_filter.mp hk).2
    show ix2 (k 0) c = k
    rw [← e1]; exact ix2_eta k
  · obtain ⟨-, e1⟩ := (lands2 idx k b c).mp (Finset.mem_filter.mp hk).2
    show u k = u (ix2 (k 0) c)
    rw [← e1]; exact congrArg u (ix2_eta k).symm

theorem scatter1 (x : FVec Ideal S2048x1 .f32) (idx : IVec S100000x1 32) (u : FVec Ideal S100000x1 .f32) (b : Fin 2048) (c : Fin 1) :
    Host.scatterAdd scatter_S2048x1_S100000x1_S100000x1_1_0_0_1 x idx u (ix2 b c)
      = x (ix2 b c) + segSum (fun n => idx (ix2 n 0)) (fun n => u (ix2 n c)) b := by
  refine congrArg (x (ix2 b c) + ·) ?_
  rw [segSum_rows]
  refine Finset.sum_nbij' (fun k => k 0) (fun n => ix2 n c) (fun k hk => ?_) (fun n hn => ?_) (fun k hk => ?_) (fun n _ => rfl) (fun k hk => ?_)
  · exact Finset.mem_filter.mpr ⟨Finset.mem_univ _, ((lands1 idx k b c).mp (Finset.mem_filter.mp hk).2).1⟩
  · exact Finset.mem_filter.mpr ⟨Finset.mem_univ _, (lands1 idx _ b c).mpr ⟨(Finset.mem_filter.mp hn).2, rfl⟩⟩
  · obtain ⟨-, e1⟩ := (lands1 idx k b c).mp (Finset.mem_filter.mp hk).2
    show ix2 (k 0) c = k
    rw [← e1]; exact ix2_eta k
  · obtain ⟨-, e1⟩ := (lands1 idx k b c).mp (Finset.mem_filter.mp hk).2
    show u k = u (ix2 (k 0) c)
    rw [← e1]; exact congrArg u (ix2_eta k).symm

/-! ## The results -/

variable (pos : FVec Ideal S100000x3 .f32) (ids : IVec S100000 32)

theorem column_apply (w : IVec S100000 32) (n : Fin 100000) (z : Fin 1) : column w (ix2 n z) = w (ix1 n) := by pointwise []

theorem centre_apply (b : Fin 2048) (c : Fin 3) :
    centre pos ids (ix2 b c) = mean (fun n => ids (ix1 n)) b (fun n => pos (ix2 n c)) := by
  unfold centre mean
  pointwise []
  rw [scatter2, scatter1]
  simp only [column_apply]
  pointwise []

theorem wrapped_apply (n : Fin 100000) (b : Fin 2048) (h : ids (ix1 n) = BitVec.ofNat 32 b.val) : wrapped ids (ix1 n) = BitVec.ofNat 32 b.val := by
  unfold wrapped
  pointwise []
  rw [wrap_of_lt _ _ (by rw [h, BitVec.toNat_ofNat]; omega), h]

/-- A row's offset is from its own segment's mean. -/
theorem offset_apply (n : Fin 100000) (b : Fin 2048) (c : Fin 3) (h : ids (ix1 n) = BitVec.ofNat 32 b.val) :
    offset pos ids (ix2 n c) = pos (ix2 n c) - mean (fun n => ids (ix1 n)) b (fun n => pos (ix2 n c)) := by
  unfold offset
  pointwise []
  exact congrArg (pos (ix2 n c) - ·) ((gather_row (nb := 2048) (B := 3) (n := 100000) gather_S2048x3_S100000x1_S100000x3_1_0_n_n_0_1_13 rfl rfl rfl rfl rfl
    (centre pos ids) (column (wrapped ids)) n c b ((column_apply _ n 0).trans (wrapped_apply ids n b h)) (by norm_num)).trans (centre_apply pos ids b c))

theorem out0_apply (q : FVec Ideal S100000x20 .f32) (mu : FVec Ideal S100000x20x3 .f32) (b : Fin 2048) (s : Fin 20) (c : Fin 3) :
    out0 pos ids q mu (ix3 b s c) = segSum (fun n => ids (ix1 n)) (fun n => mu (ix3 n s c)
      + q (ix2 n s) * (pos (ix2 n c) - mean (fun n => ids (ix1 n)) b (fun n => pos (ix2 n c)))) b := by
  unfold out0 muTot
  rw [scatter3]
  simp only [column_apply]
  pointwise []
  refine segSum_congr _ _ fun n hn => ?_
  rw [offset_apply pos ids n b c hn]

theorem cross_apply (d : FVec Ideal S100000x3 .f32) (v : FVec Ideal S100000x20x3 .f32) (n : Fin 100000) (s : Fin 20) (c : Fin 3) :
    crossOf (broadcastInDim S100000x1x3 ![0, 2] bcast_S100000x3_S100000x1x3_0_2 d) v (ix3 n s c)
      = Cert.KernelIdeal.Value.crossR (fun c => d (ix2 n c)) (fun c => v (ix3 n s c)) c := by
  pointwise [crossOf]
  fin_cases c <;> rfl

theorem out1_apply (mm v : FVec Ideal S100000x20x3 .f32) (b : Fin 2048) (s : Fin 20) (c : Fin 3) :
    out1 pos ids mm v (ix3 b s c) = segSum (fun n => ids (ix1 n)) (fun n => mm (ix3 n s c)
      + Cert.KernelIdeal.Value.half * Cert.KernelIdeal.Value.crossR
        (fun c => pos (ix2 n c) - mean (fun n => ids (ix1 n)) b (fun n => pos (ix2 n c))) (fun c => v (ix3 n s c)) c) b := by
  unfold out1 mTot
  rw [scatter3]
  simp only [column_apply]
  pointwise []
  refine segSum_congr _ _ fun n hn => ?_
  rw [cross_apply]
  simp only [offset_apply pos ids n b _ hn]

theorem rTot_apply (a b : FVec Ideal S2048x20x3 .f32) (e : FVec Ideal S2048x20 .f32) (n : Fin 2048) (s : Fin 20) :
    rTot a b e (ix2 n s) = Ideal.div (Ideal.ofBits .f32 0x45C87115#32 * ∑ c : Fin 3, a (ix3 n s c) * b (ix3 n s c)) (max (e (ix2 n s)) 1) := by
  pointwise [rTot]

end Cert.ReferenceIdeal.Value

end
-- ==== Proof.Value.lean ====
/-
  The kernel's three results are the reference's: column by column the accumulator's sums, the identities that centre
  after the sum, and the two runs put side by side.
-/
module

public import proofs.«01_k».proof.Proof.Total
public import proofs.«01_k».proof.Proof.Results
public import proofs.«01_k».proof.Proof.RefValue

@[expose] public section

set_option maxRecDepth 16384

noncomputable section

namespace Cert.KernelIdeal.Value

open Idealize.ShloMosaic Idealize.ShloMosaic.TcCoe Cert.KernelIdeal.Body Cert.KernelIdeal.Gen Cert.Segments

variable (m : (ℓ : Loc nD τ sig) → Buf (Elt Ideal) ℓ) (c : Dev nD)

/-- The arguments. -/
abbrev posA : Vec Ideal S100000x3 .f32 := m ((c : Thread nD τ).loc main_arg0)
abbrev idsA : Vec Ideal S100000 .i32 := m ((c : Thread nD τ).loc main_arg1)
abbrev qA : Vec Ideal S100000x20 .f32 := m ((c : Thread nD τ).loc main_arg2)
abbrev muA : Vec Ideal S100000x20x3 .f32 := m ((c : Thread nD τ).loc main_arg3)
abbrev momA : Vec Ideal S100000x20x3 .f32 := m ((c : Thread nD τ).loc main_arg4)
abbrev velA : Vec Ideal S100000x20x3 .f32 := m ((c : Thread nD τ).loc main_arg5)
abbrev predA : Vec Ideal S2048x20 .f32 := m ((c : Thread nD τ).loc main_arg6)

/-- The segment numbers, row by row. -/
abbrev segA (n : Fin 100000) : BitVec 32 := idsA m c (ix1 n)

/-! ## The columns -/

theorem col_mu (s : Fin 20) (d : Fin 3) : IsCol m c ⟨(j3 s d).val, by omega⟩ (fun n => muA m c (ix3 n s d) + qA m c (ix2 n s) * posA m c (ix2 n d)) := fun t k => by
  rw [feat_mu, read_mu, read_q, read_pos]

theorem col_mom (s : Fin 20) (d : Fin 3) : IsCol m c ⟨60 + (j3 s d).val, by omega⟩
    (fun n => momA m c (ix3 n s d) + half * crossR (fun d => posA m c (ix2 n d)) (fun d => velA m c (ix3 n s d)) d) := fun t k => by
  rw [feat_m, read_mom]
  simp only [read_pos, read_vel]

theorem col_vel (s : Fin 20) (d : Fin 3) : IsCol m c ⟨120 + (j3 s d).val, by omega⟩ (fun n => velA m c (ix3 n s d)) := fun t k => by
  rw [feat_v, read_vel]

theorem col_q (s : Fin 20) : IsCol m c ⟨180 + s.val, by omega⟩ (fun n => qA m c (ix2 n s)) := fun t k => by
  rw [feat_q, read_q]

theorem col_pos (d : Fin 3) : IsCol m c ⟨200 + d.val, by omega⟩ (fun n => posA m c (ix2 n d)) := fun t k => by
  rw [feat_p, read_pos]

theorem col_one : IsCol m c 203 (fun _ => 1) := fun t k => by
  rw [feat_1]

/-! ## The results -/

variable (hids : ∀ i : S100000.Idx, IsSeg (idsA m c i)) (hpos : ∀ i, ∃ r : ℝ, posA m c i = (r : EReal)) (hq : ∀ i, ∃ r : ℝ, qA m c i = (r : EReal))
  (hvel : ∀ i, ∃ r : ℝ, velA m c i = (r : EReal))

include hids in
theorem mean_apply (b : Fin 2048) (d : Fin 3) : meanPos (accEnd m c) b d = mean (segA m c) b (fun n => posA m c (ix2 n d)) := by
  unfold meanPos invCount
  rw [accEnd_apply m c hids b _ _ (col_pos m c d), accEnd_apply m c hids b _ _ (col_one m c)]
  exact mul_recip _ b _

include hids hpos hq in
theorem mu_apply (b : Fin 2048) (s : Fin 20) (d : Fin 3) :
    muOut (F := Ideal) (accEnd m c) (ix2 b (j3 s d)) = Cert.ReferenceIdeal.Run.out0 (posA m c) (idsA m c) (qA m c) (muA m c) (ix3 b s d) := by
  rw [muOut_apply, mean_apply m c hids, accEnd_apply m c hids b _ _ (col_mu m c s d), accEnd_apply m c hids b _ _ (col_q m c s)]
  exact (first_mean (segA m c) b _ _ _ (fun n => hq _) (fun n => hpos _)).trans
    (Cert.ReferenceIdeal.Value.out0_apply (posA m c) (idsA m c) (qA m c) (muA m c) b s d).symm

include hids hpos hvel in
theorem mom_apply (b : Fin 2048) (s : Fin 20) (d : Fin 3) :
    mOut (F := Ideal) (accEnd m c) (ix2 b (j3 s d)) = Cert.ReferenceIdeal.Run.out1 (posA m c) (idsA m c) (momA m c) (velA m c) (ix3 b s d) := by
  have hm : meanPos (accEnd m c) b = fun d => mean (segA m c) b (fun n => posA m c (ix2 n d)) := funext fun d => mean_apply m c hids b d
  have hv : sumVel (accEnd m c) b s = fun d => segSum (segA m c) (fun n => velA m c (ix3 n s d)) b := funext fun d => accEnd_apply m c hids b _ _ (col_vel m c s d)
  rw [mOut_apply, hm, hv, accEnd_apply m c hids b _ _ (col_mom m c s d)]
  exact (second_mean (segA m c) b (fun n => momA m c (ix3 n s d)) (fun n d => posA m c (ix2 n d)) (fun n d => velA m c (ix3 n s d)) (fun n d => hpos _) (fun n d => hvel _) d).trans
    (Cert.ReferenceIdeal.Value.out1_apply (posA m c) (idsA m c) (momA m c) (velA m c) b s d).symm

/-- The flat result's columns as pairs. -/
theorem unflat_apply (x : Vec Ideal S2048x60 .f32) (b : Fin 2048) (s : Fin 20) (d : Fin 3) :
    shapeCast (s := S2048x60) S2048x20x3 x shapeCasts_S2048x60_S2048x20x3 (ix3 b s d) = x (ix2 b (j3 s d)) := by
  pointwise []
  exact congrArg (fun j => x (ix2 b j)) (Fin.ext (by show s.val * 3 + d.val = 3 * s.val + d.val; omega))

include hids hpos hq in
theorem result0 : shapeCast (s := S2048x60) S2048x20x3 (muOut (F := Ideal) (accEnd m c)) shapeCasts_S2048x60_S2048x20x3
    = Cert.ReferenceIdeal.Run.out0 (posA m c) (idsA m c) (qA m c) (muA m c) := funext fun i => by
  rw [← ix3_eta i]
  exact (unflat_apply _ (i 0) (i 1) (i 2)).trans (mu_apply m c hids hpos hq (i 0) (i 1) (i 2))

include hids hpos hvel in
theorem result1 : shapeCast (s := S2048x60) S2048x20x3 (mOut (F := Ideal) (accEnd m c)) shapeCasts_S2048x60_S2048x20x3
    = Cert.ReferenceIdeal.Run.out1 (posA m c) (idsA m c) (momA m c) (velA m c) := funext fun i => by
  rw [← ix3_eta i]
  exact (unflat_apply _ (i 0) (i 1) (i 2)).trans (mom_apply m c hids hpos hvel (i 0) (i 1) (i 2))

include hids hpos hq hvel in
theorem result2 : rOut (F := Ideal) (accEnd m c) (iblk m c 6 ⟨99, last_lt⟩)
    = Cert.ReferenceIdeal.Run.out2 (posA m c) (idsA m c) (qA m c) (muA m c) (momA m c) (velA m c) (predA m c) := funext fun i => by
  rw [← ix2_eta i]
  have key (b : Fin 2048) (s : Fin 20) : rOut (F := Ideal) (accEnd m c) (iblk m c 6 ⟨99, last_lt⟩) (ix2 b s)
      = Cert.ReferenceIdeal.Run.out2 (posA m c) (idsA m c) (qA m c) (muA m c) (momA m c) (velA m c) (predA m c) (ix2 b s) := by
    refine Eq.trans ?_ (Cert.ReferenceIdeal.Value.rTot_apply _ _ _ b s).symm
    rw [rOut_apply, read_pred]
    simp only [mu_apply m c hids hpos hq, mom_apply m c hids hpos hvel]
  exact key (i 0) (i 1)

end Cert.KernelIdeal.Value

end
-- ==== Proof.lean ====
/-
  The proof of the claims: the kernel's frame as printed and at the ideal instance, the reference's, and the equality of
  the kernel's three results with the reference's.
-/
module

public import proofs.«01_k».proof.Defs
public import proofs.«01_k».proof.Proof.Pre
public import proofs.«01_k».proof.Proof.Printed
public import proofs.«01_k».proof.Proof.Reference
public import proofs.«01_k».proof.Proof.Value

@[expose] public section

noncomputable section

namespace Cert.Proof

open Idealize.ShloMosaic Idealize.SL.Sem

/-- The two idealized programs end with equal results. -/
theorem equal_results : Cert.algebraic_KernelIdeal_ReferenceIdeal_pre_finite_in_range (hKernelIdeal := Cert.KernelIdeal.Gen.facts)
    (hReferenceIdeal := Cert.ReferenceIdeal.Gen.facts) (hPre_finite_in_range := Cert.Pre.finiteFacts) := by
  intro m g m' g' hpre hargs
  have parts := fun c => Cert.Pre.finite_parts _ _ _ _ _ _ _ (hpre c)
  refine ⟨fun c => Cert.ReferenceIdeal.Run.out0 (F := Ideal) (Cert.KernelIdeal.Value.posA m c) (Cert.KernelIdeal.Value.idsA m c) (Cert.KernelIdeal.Value.qA m c) (Cert.KernelIdeal.Value.muA m c),
    fun c => Cert.ReferenceIdeal.Run.out1 (F := Ideal) (Cert.KernelIdeal.Value.posA m c) (Cert.KernelIdeal.Value.idsA m c) (Cert.KernelIdeal.Value.momA m c) (Cert.KernelIdeal.Value.velA m c),
    fun c => Cert.ReferenceIdeal.Run.out2 (F := Ideal) (Cert.KernelIdeal.Value.posA m c) (Cert.KernelIdeal.Value.idsA m c) (Cert.KernelIdeal.Value.qA m c) (Cert.KernelIdeal.Value.muA m c)
      (Cert.KernelIdeal.Value.momA m c) (Cert.KernelIdeal.Value.velA m c) (Cert.KernelIdeal.Value.predA m c),
    θ_run_mono (Cert.KernelIdeal.Value.run_results m g (Cert.KernelIdeal.Body.ranges_of m fun c => (parts c).1)) fun r h c => ?_,
    θ_run_mono (Cert.ReferenceIdeal.Run.run m' g') fun r h c => ?_⟩
  · obtain ⟨hids, hpos, hq, hvel⟩ := parts c
    obtain ⟨h0, h1, h2, hrest⟩ := h c
    exact ⟨h0.trans (Cert.KernelIdeal.Value.result0 m c hids hpos hq), h1.trans (Cert.KernelIdeal.Value.result1 m c hids hpos hvel),
      h2.trans (Cert.KernelIdeal.Value.result2 m c hids hpos hq hvel), hrest⟩
  · obtain ⟨h0, h1, h2, hrest⟩ := h c
    obtain ⟨a0, a1, a2, a3, a4, a5, a6⟩ := hargs c
    rw [a0, a1, a2, a3] at h0
    rw [a0, a1, a4, a5] at h1
    rw [a0, a1, a2, a3, a4, a5, a6] at h2
    exact ⟨h0, h1, h2, hrest⟩

theorem claim : Cert.Claim := ⟨Cert.Kernel.Gen.facts, Cert.KernelIdeal.Gen.facts, Cert.ReferenceIdeal.Gen.facts, Cert.Pre.inRangeFacts, Cert.Pre.finiteFacts,
  fun m g h => Cert.KernelIdeal.Body.frame_kernel m g fun c => Cert.Pre.seg_of_in_range _ _ _ _ _ _ _ (h c),
  fun m g h => Cert.KernelIdeal.Body.frame_ok m g (Cert.KernelIdeal.Body.ranges_of m fun c => Cert.Pre.seg_of_in_range _ _ _ _ _ _ _ (h c)),
  fun m g h => Cert.KernelIdeal.Body.frame_ok m g (Cert.KernelIdeal.Body.ranges_of m fun c => (Cert.Pre.finite_parts _ _ _ _ _ _ _ (h c)).1),
  fun m g _ => θ_run_mono (Cert.ReferenceIdeal.Run.run m g) fun r h => ⟨fun c => (h c).2.2.2, Cert.ReferenceIdeal.Run.quiet r.2⟩,
  fun m g _ => θ_run_mono (Cert.ReferenceIdeal.Run.run m g) fun r h => ⟨fun c => (h c).2.2.2, Cert.ReferenceIdeal.Run.quiet r.2⟩,
  trivial,
  equal_results⟩

end Cert.Proof

end
